-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x2048 : Shape := ⟨2, ![1024, 2048]⟩
abbrev S2048x16384 : Shape := ⟨2, ![2048, 16384]⟩
abbrev S_ : Shape := ⟨0, ![]⟩
abbrev S512x2048 : Shape := ⟨2, ![512, 2048]⟩
abbrev S512x16384 : Shape := ⟨2, ![512, 16384]⟩
abbrev S1024x32768 : Shape := ⟨2, ![1024, 32768]⟩
abbrev S3x512x16384 : Shape := ⟨3, ![3, 512, 16384]⟩
abbrev S64x32768 : Shape := ⟨2, ![64, 32768]⟩
abbrev S2 : Shape := ⟨1, ![2]⟩
abbrev S10 : Shape := ⟨1, ![10]⟩
abbrev S1 : Shape := ⟨1, ![1]⟩
abbrev S1x512x16384 : Shape := ⟨3, ![1, 512, 16384]⟩
abbrev S1x64x16384 : Shape := ⟨3, ![1, 64, 16384]⟩
abbrev S64x16384 : Shape := ⟨2, ![64, 16384]⟩
abbrev S64 : Shape := ⟨1, ![64]⟩
abbrev S64x1 : Shape := ⟨2, ![64, 1]⟩

abbrev nBuf : Space → Nat
  | .hbm => 21
  | .vmem => 2
  | .smem => 0
  | _ => 0

abbrev bufTy : (tb : Table) → Fin (tcTables nBuf tb) → BufTy
  | .hbm, ⟨0, _⟩ => ⟨S1024x2048, .bf16⟩
  | .hbm, ⟨1, _⟩ => ⟨S2048x16384, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S512x2048, .bf16⟩
  | .hbm, ⟨17, _⟩ => ⟨S512x16384, .f32⟩
  | .hbm, ⟨18, _⟩ => ⟨S512x16384, .bf16⟩
  | .hbm, ⟨19, _⟩ => ⟨S1024x32768, .f32⟩
  | .hbm, ⟨20, _⟩ => ⟨S3x512x16384, .bf16⟩
  | .local _ .vmem, ⟨0, _⟩ => ⟨S64x32768, .bf16⟩
  | .local _ .vmem, ⟨1, _⟩ => ⟨S64x32768, .f32⟩
  | _, _ => ⟨S1024x2048, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_c_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_6 : BitVec 32 := 1#32
  let v11 : BitVec 32 := Scalar.muli v7 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let c2_i32_8 : BitVec 32 := 2#32
  let v13 : BitVec 32 := Scalar.muli v8 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_dev3 (d0 : Dev nD) : Nat :=
  let c0_i32_17 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_16 : BitVec 32 := 2#32
  let v18 : BitVec 32 := Scalar.muli v2 c2_i32_16
  let v19 : BitVec 32 := Scalar.addi c0_i32_17 v18
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v17 : BitVec 32 := Scalar.subi c1_i32_12 v5
  let c1_i32_18 : BitVec 32 := 1#32
  let v20 : BitVec 32 := Scalar.muli v17 c1_i32_18
  let v21 : BitVec 32 := Scalar.addi v19 v20
  v21.toNat
def k0_dev4 (d0 : Dev nD) : Nat :=
  let c0_i32_26 : BitVec 32 := 0#32
  let c1_i32_21 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.subi c1_i32_21 v2
  let c2_i32_25 : BitVec 32 := 2#32
  let v29 : BitVec 32 := Scalar.muli v28 c2_i32_25
  let v30 : BitVec 32 := Scalar.addi c0_i32_26 v29
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_27 : BitVec 32 := 1#32
  let v31 : BitVec 32 := Scalar.muli v5 c1_i32_27
  let v32 : BitVec 32 := Scalar.addi v30 v31
  v32.toNat
def k0_dev5 (d0 : Dev nD) : Nat :=
  let c0_i32_44 : BitVec 32 := 0#32
  let c1_i32_38 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v47 : BitVec 32 := Scalar.subi c1_i32_38 v2
  let c2_i32_43 : BitVec 32 := 2#32
  let v48 : BitVec 32 := Scalar.muli v47 c2_i32_43
  let v49 : BitVec 32 := Scalar.addi c0_i32_44 v48
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_45 : BitVec 32 := 1#32
  let v50 : BitVec 32 := Scalar.muli v5 c1_i32_45
  let v51 : BitVec 32 := Scalar.addi v49 v50
  v51.toNat
def k0_dev6 (d0 : Dev nD) : Nat :=
  let c0_i32_55 : BitVec 32 := 0#32
  let c1_i32_50 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v60 : BitVec 32 := Scalar.subi c1_i32_50 v2
  let c2_i32_54 : BitVec 32 := 2#32
  let v61 : BitVec 32 := Scalar.muli v60 c2_i32_54
  let v62 : BitVec 32 := Scalar.addi c0_i32_55 v61
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_56 : BitVec 32 := 1#32
  let v63 : BitVec 32 := Scalar.muli v5 c1_i32_56
  let v64 : BitVec 32 := Scalar.addi v62 v63
  v64.toNat
def k0_dev7 (d0 : Dev nD) : Nat :=
  let c0_i32_65 : BitVec 32 := 0#32
  let c1_i32_60 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v73 : BitVec 32 := Scalar.subi c1_i32_60 v2
  let c2_i32_64 : BitVec 32 := 2#32
  let v74 : BitVec 32 := Scalar.muli v73 c2_i32_64
  let v75 : BitVec 32 := Scalar.addi c0_i32_65 v74
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v76 : BitVec 32 := Scalar.muli v5 c1_i32_66
  let v77 : BitVec 32 := Scalar.addi v75 v76
  v77.toNat
def k0_dev8 (d0 : Dev nD) : Nat :=
  let c0_i32_75 : BitVec 32 := 0#32
  let c1_i32_70 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v86 : BitVec 32 := Scalar.subi c1_i32_70 v2
  let c2_i32_74 : BitVec 32 := 2#32
  let v87 : BitVec 32 := Scalar.muli v86 c2_i32_74
  let v88 : BitVec 32 := Scalar.addi c0_i32_75 v87
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_76 : BitVec 32 := 1#32
  let v89 : BitVec 32 := Scalar.muli v5 c1_i32_76
  let v90 : BitVec 32 := Scalar.addi v88 v89
  v90.toNat
def k0_dev9 (d0 : Dev nD) : Nat :=
  let c0_i32_85 : BitVec 32 := 0#32
  let c1_i32_80 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v99 : BitVec 32 := Scalar.subi c1_i32_80 v2
  let c2_i32_84 : BitVec 32 := 2#32
  let v100 : BitVec 32 := Scalar.muli v99 c2_i32_84
  let v101 : BitVec 32 := Scalar.addi c0_i32_85 v100
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_86 : BitVec 32 := 1#32
  let v102 : BitVec 32 := Scalar.muli v5 c1_i32_86
  let v103 : BitVec 32 := Scalar.addi v101 v102
  v103.toNat
def k0_dev10 (d0 : Dev nD) : Nat :=
  let c0_i32_95 : BitVec 32 := 0#32
  let c1_i32_90 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v112 : BitVec 32 := Scalar.subi c1_i32_90 v2
  let c2_i32_94 : BitVec 32 := 2#32
  let v113 : BitVec 32 := Scalar.muli v112 c2_i32_94
  let v114 : BitVec 32 := Scalar.addi c0_i32_95 v113
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_96 : BitVec 32 := 1#32
  let v115 : BitVec 32 := Scalar.muli v5 c1_i32_96
  let v116 : BitVec 32 := Scalar.addi v114 v115
  v116.toNat
def k0_dev11 (d0 : Dev nD) : Nat :=
  let c0_i32_105 : BitVec 32 := 0#32
  let c1_i32_100 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v125 : BitVec 32 := Scalar.subi c1_i32_100 v2
  let c2_i32_104 : BitVec 32 := 2#32
  let v126 : BitVec 32 := Scalar.muli v125 c2_i32_104
  let v127 : BitVec 32 := Scalar.addi c0_i32_105 v126
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_106 : BitVec 32 := 1#32
  let v128 : BitVec 32 := Scalar.muli v5 c1_i32_106
  let v129 : BitVec 32 := Scalar.addi v127 v128
  v129.toNat
def k0_dev12 (d0 : Dev nD) : Nat :=
  let c0_i32_115 : BitVec 32 := 0#32
  let c1_i32_110 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v138 : BitVec 32 := Scalar.subi c1_i32_110 v2
  let c2_i32_114 : BitVec 32 := 2#32
  let v139 : BitVec 32 := Scalar.muli v138 c2_i32_114
  let v140 : BitVec 32 := Scalar.addi c0_i32_115 v139
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_116 : BitVec 32 := 1#32
  let v141 : BitVec 32 := Scalar.muli v5 c1_i32_116
  let v142 : BitVec 32 := Scalar.addi v140 v141
  v142.toNat
def k0_off1 (d0 : Dev nD) : Fin 2 → Nat :=
  let c0_i32_124 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32 : BitVec 32 := 16384#32
  let v153 : BitVec 32 := Scalar.muli v5 c16384_i32
  ![0, v153.toNat]
def k0_off2 (d0 : Dev nD) : Fin 2 → Nat :=
  let c0_i32_129 : BitVec 32 := 0#32
  let c1_i32_121 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v154 : BitVec 32 := Scalar.subi c1_i32_121 v5
  let c16384_i32_122 : BitVec 32 := 16384#32
  let v155 : BitVec 32 := Scalar.muli v154 c16384_i32_122
  ![0, v155.toNat]
def k0_off3 (d0 : Dev nD) (c0_i32_120 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v151 : BitVec 32 := Scalar.muli v2 c512_i32
  let v152 : BitVec 32 := Scalar.addi v151 c0_i32_120
  let c0_i32_145 : BitVec 32 := 0#32
  ![v152.toNat, 0]
def k0_off4 (d0 : Dev nD) (c0_i32_385 : BitVec 32) : Fin 2 → Nat :=
  let c1_i32_383 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v481 : BitVec 32 := Scalar.subi c1_i32_383 v2
  let c512_i32_384 : BitVec 32 := 512#32
  let v482 : BitVec 32 := Scalar.muli v481 c512_i32_384
  let v483 : BitVec 32 := Scalar.addi v482 c0_i32_385
  let c0_i32_415 : BitVec 32 := 0#32
  ![v483.toNat, 0]
-- ==== ReferenceIdeal.lean ====
abbrev S1024x2048 : Shape := ⟨2, ![1024, 2048]⟩
abbrev S2048x32768 : Shape := ⟨2, ![2048, 32768]⟩
abbrev S1024x32768 : Shape := ⟨2, ![1024, 32768]⟩
abbrev S_ : Shape := ⟨0, ![]⟩
abbrev S1024 : Shape := ⟨1, ![1024]⟩
abbrev S1024x1 : Shape := ⟨2, ![1024, 1]⟩

abbrev nBuf : Space → Nat
  | .hbm => 16
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x32768, .bf16⟩
  | .hbm, ⟨2, _⟩ => ⟨S1024x2048, .f32⟩
  | .hbm, ⟨3, _⟩ => ⟨S2048x32768, .f32⟩
  | .hbm, ⟨4, _⟩ => ⟨S1024x32768, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x32768, .f32⟩
  | .hbm, ⟨9, _⟩ => ⟨S1024x32768, .f32⟩
  | .hbm, ⟨10, _⟩ => ⟨S1024x32768, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x32768, .f32⟩
  | .hbm, ⟨15, _⟩ => ⟨S1024x32768, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Program.lean ====
/-
  The kernel's body, structured: the same operations in the same order, written with the loops
  folded (`runL`) and every view, semaphore and offset as a function of the chunk's number.

  A chip: it signals its two neighbours, waits for both, sends its block to each, forwards what it
  got from one neighbour to the other in eight chunks, computes the eight row tiles of its own rows
  from its own block and the block of its `y` neighbour, then the eight row tiles of the other rows
  from the block of its `x` neighbour and the chunks that neighbour forwarded, and last waits for
  the departure of everything it sent.
-/
module

public import proofs.«01_k».proof.Proof.Gen.KernelIdeal.Skeleton
public import proofs.«01_k».proof.Proof.Gen.KernelIdeal.Launch
public import proofs.«01_k».proof.Proof.Gen.KernelIdeal.Points

@[expose] public section

set_option maxRecDepth 8192

noncomputable section

namespace Cert.KernelIdeal.Gen

open Idealize.ShloMosaic Idealize.SL.Sem

variable {F : FTy → Type} [FloatOps F]

/-! ## Semaphores -/

/-- One counter of ten is in range. -/
theorem s10_inb (k : Fin 10) : ∀ a, (![k.val] : Fin 1 → Nat) a + S1.size a ≤ S10.size a := by revert k; decide
/-- One counter of two is in range. -/
theorem s2_inb (k : Fin 2) : ∀ a, (![k.val] : Fin 1 → Nat) a + S1.size a ≤ S2.size a := by revert k; decide

/-- The semaphore the `k`-th departure completes on. -/
def sendS (k : Fin 10) : DmaSem sig := ((cc0_scratch4.slice (Rect.unit (s := S10) ![k.val] S1.size (s10_inb k))).squeeze S_ squeezes_S1_S_).sem
/-- The semaphore the `k`-th arrival completes on. -/
def recvS (k : Fin 10) : DmaSem sig := ((cc0_scratch5.slice (Rect.unit (s := S10) ![k.val] S1.size (s10_inb k))).squeeze S_ squeezes_S1_S_).sem
/-- The semaphore of the copy into the `k`-th half of the input tile. -/
def inS (k : Fin 2) : DmaSem sig := ((cc0_scratch2.slice (Rect.unit (s := S2) ![k.val] S1.size (s2_inb k))).squeeze S_ squeezes_S1_S_).sem
/-- The semaphore of the copy out of the output tile. -/
def outS : DmaSem sig := cc0_scratch3.sem
/-- The barrier's semaphore. -/
def barS : Sem sig := (SemArray.scalar (sig.barrier 0 rfl) : Sems sig S_).sem

/-! ## Views -/

/-- A plane is in range. -/
theorem plane_inb (p : Fin 3) : ∀ a, (![p.val, 0, 0] : Fin 3 → Nat) a + S1x512x16384.size a ≤ S3x512x16384.size a := by revert p; decide
/-- A chunk is in range. -/
theorem chunk_inb (p : Fin 3) (i : Fin 8) : ∀ a, (![p.val, 64 * i.val, 0] : Fin 3 → Nat) a + S1x64x16384.size a ≤ S3x512x16384.size a := by
  revert p i; decide
/-- A row tile is in range. -/
theorem rows_inb (i : Fin 8) : ∀ a, (![64 * i.val, 0] : Fin 2 → Nat) a + S64x16384.size a ≤ S512x16384.size a := by revert i; decide

/-- The chip's own block. -/
abbrev blkM : Memref sig .tc .hbm S512x16384 .bf16 := Memref.whole main_v11
/-- The result. -/
abbrev outM : Memref sig .tc .hbm S1024x32768 .f32 := Memref.whole main_v12_0
/-- The three planes the chips exchange. -/
abbrev commM : Memref sig .tc .hbm S3x512x16384 .bf16 := Memref.whole main_v12_1
/-- The input tile. -/
abbrev vinM : Memref sig .tc .vmem S64x32768 .bf16 := Memref.whole cc0_scratch0
/-- The output tile. -/
abbrev voutM : Memref sig .tc .vmem S64x32768 .f32 := Memref.whole cc0_scratch1

/-- Plane `p` of the exchange buffer. -/
def planeM (p : Fin 3) : Memref sig .tc .hbm S512x16384 .bf16 :=
  (commM.slice (Rect.unit (s := S3x512x16384) ![p.val, 0, 0] S1x512x16384.size (plane_inb p)) (fun _ => rfl)).squeeze S512x16384 squeezes_S1x512x16384_S512x16384
/-- Rows `64 i .. 64 i + 63` of plane `p`. -/
def chunkM (p : Fin 3) (i : Fin 8) : Memref sig .tc .hbm S64x16384 .bf16 :=
  (commM.slice (Rect.unit (s := S3x512x16384) ![p.val, 64 * i.val, 0] S1x64x16384.size (chunk_inb p i)) (fun _ => rfl)).squeeze S64x16384 squeezes_S1x64x16384_S64x16384
/-- Rows `64 i .. 64 i + 63` of the chip's own block. -/
def rowsM (i : Fin 8) : Memref sig .tc .hbm S64x16384 .bf16 :=
  blkM.slice (Rect.unit (s := S512x16384) ![64 * i.val, 0] S64x16384.size (rows_inb i)) (fun _ => rfl)
/-- The half of the input tile for the columns of the chips with `d`'s `y`. -/
def vinAM (d : Dev nD) : Memref sig .tc .vmem S64x16384 .bf16 :=
  vinM.slice (Rect.unit (s := S64x32768) (k0_off1 d) S64x16384.size (k0_off1_inb d)) (fun _ => rfl)
/-- The half of the input tile for the other columns. -/
def vinBM (d : Dev nD) : Memref sig .tc .vmem S64x16384 .bf16 :=
  vinM.slice (Rect.unit (s := S64x32768) (k0_off2 d) S64x16384.size (k0_off2_inb d)) (fun _ => rfl)
/-- The `i`-th row tile of the result within the rows of the chips with `d`'s `x`. -/
def outAM (d : Dev nD) (i : Fin 8) : Memref sig .tc .hbm S64x32768 .f32 :=
  outM.slice (Rect.unit (s := S1024x32768) (k0_off3 d (BitVec.ofNat 32 (64 * i.val))) S64x32768.size (k0_off3_inb d i)) (fun _ => rfl)
/-- The `i`-th row tile of the result within the other rows. -/
def outBM (d : Dev nD) (i : Fin 8) : Memref sig .tc .hbm S64x32768 .f32 :=
  outM.slice (Rect.unit (s := S1024x32768) (k0_off4 d (BitVec.ofNat 32 (64 * i.val))) S64x32768.size (k0_off4_inb d i)) (fun _ => rfl)

/-- A plane is whole words. -/
theorem planeW (p : Fin 3) : (planeM p).view.WordExact :=
  ((Memref.isWhole_whole main_v12_1).wordExact_slice rfl _ (by revert p; decide)).reshape _ _
/-- A chunk is whole words. -/
theorem chunkW (p : Fin 3) (i : Fin 8) : (chunkM p i).view.WordExact :=
  ((Memref.isWhole_whole main_v12_1).wordExact_slice rfl _ (by revert p i; decide)).reshape _ _
/-- A row tile is whole words. -/
theorem rowsW (i : Fin 8) : (rowsM i).view.WordExact :=
  (Memref.isWhole_whole main_v11).wordExact_slice rfl _ (by revert i; decide)
/-- The chip's own half of the input tile is whole words. -/
theorem vinAW (d : Dev nD) : (vinAM d).view.WordExact := (Memref.isWhole_whole cc0_scratch0).wordExact_slice rfl _ (k0_off1_wordsbf16 d)
/-- The other half of the input tile is whole words. -/
theorem vinBW (d : Dev nD) : (vinBM d).view.WordExact := (Memref.isWhole_whole cc0_scratch0).wordExact_slice rfl _ (k0_off2_wordsbf16 d)
/-- The block is whole words. -/
theorem blkW : blkM.view.WordExact := (Memref.isWhole_whole main_v11).wordExact
/-- The output tile is whole words. -/
theorem voutW : voutM.view.WordExact := (Memref.isWhole_whole cc0_scratch1).wordExact

/-! ## Neighbours -/

/-- The chip with the other `y`. -/
def yN (d : Dev nD) : Dev nD := ⟨k0_dev1 d, k0_dev1_lt d⟩
/-- The chip with the other `x`. -/
def xN (d : Dev nD) : Dev nD := ⟨k0_dev2 d, k0_dev2_lt d⟩

/-! ## The operations -/

/-- A program of a chip's core. -/
abbrev Prg (F : FTy → Type) [FloatOps F] : Type 1 := Prog (TpuEff nD τ sig (Elt F) Λ₀ .tc) PUnit

/-- The softmax of a tile's rows. -/
abbrev softTile (v : Vec F S64x32768 .bf16) : FVec F S64x32768 .f32 := k0_pay4 v

/-- One remote copy: `src` to `dst` on chip `e`, departing on `sendS k` and arriving on `recvS k`. -/
def sendTo {s : Shape} (k : Fin 10) (e : Dev nD) (src dst : Memref sig .tc .hbm s .bf16) (hs : src.view.WordExact)
    (hd : dst.view.WordExact) : Prg F :=
  Prog.lift (.enqueueDma src (.remote (Dev.tc e) dst (.dma (sendS k))) (.dma (recvS k)) hs hd ⟨⟨rfl, Or.inl rfl⟩, trivial⟩)

/-- One row tile: two copies in, the softmax, one copy out. -/
def tile (d : Dev nD) (a b : Memref sig .tc .hbm S64x16384 .bf16) (ha : a.view.WordExact) (hb : b.view.WordExact)
    (o : Memref sig .tc .hbm S64x32768 .f32) (ho : o.view.WordExact) : Prg F := do
  Prog.lift (.enqueueDma a (.here (vinAM d)) (.dma (inS 0)) ha (vinAW d) ⟨Or.inl rfl, trivial⟩)
  Prog.lift (.enqueueDma b (.here (vinBM d)) (.dma (inS 1)) hb (vinBW d) ⟨Or.inl rfl, trivial⟩)
  Prog.lift (.waitDma2 (inS 0) a (vinAM d) ha (vinAW d))
  Prog.lift (.waitDma2 (inS 1) b (vinBM d) hb (vinBW d))
  let v ← Prog.lift (.load vinM (Rect.unit (s := S64x32768) ![0, 0] S64x32768.size inb_S64x32768_S64x32768_0_0).toLoadRect (View.loadsAt_vmem h_S64x32768))
  let _ ← Prog.lift (.load voutM (Rect.unit (s := S64x32768) ![0, 0] S64x32768.size inb_S64x32768_S64x32768_0_0).toLoadRect (View.loadsAt_vmem h_S64x32768))
  Prog.lift (.store voutM (Rect.unit (s := S64x32768) ![0, 0] S64x32768.size inb_S64x32768_S64x32768_0_0) (softTile v) Finset.univ (View.stores_vmem_bits_univ h_S64x32768 rfl) (.inl rfl))
  Prog.lift (.enqueueDma voutM (.here o) (.dma outS) voutW ho ⟨Or.inl rfl, trivial⟩)
  Prog.lift (.waitDma2 outS voutM o voutW ho)

/-- Forwarding chunk `i`. -/
def fwd (d : Dev nD) (i : Fin 8) : Prg F :=
  sendTo ⟨2 + i.val, by omega⟩ (xN d) (chunkM 0 i) (chunkM 2 i) (chunkW 0 i) (chunkW 2 i)

/-- The row tile `i` of the chip's own rows. -/
def tileA (d : Dev nD) (i : Fin 8) : Prg F :=
  tile d (rowsM i) (chunkM 0 i) (rowsW i) (chunkW 0 i) (outAM d i) (View.wordExact_bits rfl)

/-- The wait for forwarded chunk `i`, and the row tile `i` of the other rows. -/
def tileB (d : Dev nD) (i : Fin 8) : Prg F := do
  Prog.lift (.waitDma2 (recvS ⟨2 + i.val, by omega⟩) (chunkM 0 i) (chunkM 2 i) (chunkW 0 i) (chunkW 2 i))
  tile d (chunkM 1 i) (chunkM 2 i) (chunkW 1 i) (chunkW 2 i) (outBM d i) (View.wordExact_bits rfl)

/-- The wait for the departure of forwarded chunk `i`. -/
def unfwd (i : Fin 8) : Prg F :=
  Prog.lift (.waitDma2 (sendS ⟨2 + i.val, by omega⟩) (chunkM 2 i) (chunkM 0 i) (chunkW 2 i) (chunkW 0 i))

/-- `f` at the members of a list, in order. -/
def runL (f : Fin 8 → Prg F) : List (Fin 8) → Prg F
  | [] => pure ⟨⟩
  | a :: l => do f a; runL f l

/-- The eight chunks in order. -/
abbrev eight : List (Fin 8) := [0, 1, 2, 3, 4, 5, 6, 7]

/-- The body. -/
def body : Prg F := do
  let d : Dev nD ← Prog.lift .deviceId
  semSignalWord (yN d) barS 1#32
  semSignalWord (xN d) barS 1#32
  semWaitWord barS 2#32
  sendTo 0 (yN d) blkM (planeM 0) blkW (planeW 0)
  sendTo 1 (xN d) blkM (planeM 1) blkW (planeW 1)
  Prog.lift (.waitDma2 (recvS 0) blkM (planeM 0) blkW (planeW 0))
  runL (fwd d) eight
  runL (tileA d) eight
  Prog.lift (.waitDma2 (recvS 1) blkM (planeM 1) blkW (planeW 1))
  runL (tileB d) eight
  Prog.lift (.waitDma2 (sendS 0) (planeM 0) blkM (planeW 0) blkW)
  Prog.lift (.waitDma2 (sendS 1) (planeM 1) blkM (planeW 1) blkW)
  runL unfwd eight

set_option maxRecDepth 100000 in
set_option maxHeartbeats 4000000 in
/-- The printed body at the launch's buffers is the structured one. -/
theorem body_eq : cc0_body (F := F) (Memref.whole main_v11) (Memref.isWhole_whole _) (Memref.whole main_v12_0) (Memref.isWhole_whole _) (Memref.whole main_v12_1) (Memref.isWhole_whole _)
    (Memref.whole cc0_scratch0) (Memref.isWhole_whole _) (Memref.whole cc0_scratch1) (Memref.isWhole_whole _) cc0_scratch2 cc0_scratch3 cc0_scratch4 cc0_scratch5 = body (F := F) := by
  rw [cc0_body_eq_skeleton]; rfl

end Cert.KernelIdeal.Gen

end
-- ==== Proof.Views.lean ====
/-
  What the kernel's views cover and read: the elements under each view as a range of coordinates,
  the buffers as the disjoint unions of their parts, and what each view reads off the contents the
  run gives its buffer.
-/
module

public import proofs.«01_k».proof.Proof.Program
public import Idealize.ShloMosaic.Lib.ValueLayout

@[expose] public section

set_option maxRecDepth 8192

noncomputable section

namespace Cert.KernelIdeal.Gen

open Idealize.ShloMosaic Idealize.ShloMosaic.ValueIdx

variable {F : FTy → Type} [FloatOps F]

/-! ## Neighbours -/

/-- The step along `y` undoes itself. -/
theorem yN_yN (d : Dev nD) : yN (yN d) = d := by revert d; decide
/-- The step along `x` undoes itself. -/
theorem xN_xN (d : Dev nD) : xN (xN d) = d := by revert d; decide
/-- The two steps commute. -/
theorem yN_xN (d : Dev nD) : yN (xN d) = xN (yN d) := by revert d; decide
/-- The `y` neighbour is another chip. -/
theorem yN_ne (d : Dev nD) : yN d ≠ d := by revert d; decide
/-- The `x` neighbour is another chip. -/
theorem xN_ne (d : Dev nD) : xN d ≠ d := by revert d; decide
/-- The two neighbours differ. -/
theorem xN_ne_yN (d : Dev nD) : xN d ≠ yN d := by revert d; decide

/-- The chip whose block reaches plane `p` of chip `c`. -/
def srcOf (p : Fin 3) (c : Dev nD) : Dev nD := if p = 0 then yN c else if p = 1 then xN c else yN (xN c)

/-- The chip at row band `a` and column band `b`. -/
def devOf (a b : Nat) : Dev nD := ⟨(2 * (a % 2) + b % 2), by show _ < 4; omega⟩

/-- Where the chip's own columns start. -/
theorem off1_eq (d : Dev nD) : k0_off1 d = ![0, 16384 * (d.val % 2)] := by revert d; decide
/-- Where the other columns start. -/
theorem off2_eq (d : Dev nD) : k0_off2 d = ![0, 16384 * (1 - d.val % 2)] := by revert d; decide
/-- Where a tile of the chip's own rows starts. -/
theorem off3_eq (d : Dev nD) (i : Fin 8) : k0_off3 d (BitVec.ofNat 32 (64 * i.val)) = ![512 * (d.val / 2) + 64 * i.val, 0] := by
  revert d i; decide
/-- Where a tile of the other rows starts. -/
theorem off4_eq (d : Dev nD) (i : Fin 8) : k0_off4 d (BitVec.ofNat 32 (64 * i.val)) = ![512 * (1 - d.val / 2) + 64 * i.val, 0] := by
  revert d i; decide

/-! ## The elements under each view -/

/-- The elements of a plane. -/
theorem mem_plane (p : Fin 3) (j : S3x512x16384.Idx) : j ∈ (planeM p).view.set ↔ (j 0).val = p.val := by
  refine (Iff.of_eq (congrArg (fun S : Finset S3x512x16384.Idx => j ∈ S) (show (planeM p).view.set = (Rect.unit (s := S3x512x16384) ![p.val, 0, 0] S1x512x16384.size (plane_inb p)).set from
    (View.set_reshape _ _).trans (View.set_slice_whole _ _)))).trans (Rect.mem_set_unit.trans ?_)
  have h1 : (j 1).val < 512 := (j 1).isLt
  have h2 : (j 2).val < 16384 := (j 2).isLt
  constructor
  · intro h; have := h 0; simp at this; omega
  · intro h a
    fin_cases a <;> simp <;> omega

/-- The elements of a chunk. -/
theorem mem_chunk (p : Fin 3) (i : Fin 8) (j : S3x512x16384.Idx) :
    j ∈ (chunkM p i).view.set ↔ (j 0).val = p.val ∧ (j 1).val / 64 = i.val := by
  refine (Iff.of_eq (congrArg (fun S : Finset S3x512x16384.Idx => j ∈ S) (show (chunkM p i).view.set = (Rect.unit (s := S3x512x16384) ![p.val, 64 * i.val, 0] S1x64x16384.size (chunk_inb p i)).set from
    (View.set_reshape _ _).trans (View.set_slice_whole _ _)))).trans (Rect.mem_set_unit.trans ?_)
  have h2 : (j 2).val < 16384 := (j 2).isLt
  constructor
  · intro h
    have h0 := h 0; have h1 := h 1
    simp at h0 h1; omega
  · intro h a
    fin_cases a <;> simp <;> omega

/-- The elements of a row tile of the block. -/
theorem mem_rows (i : Fin 8) (j : S512x16384.Idx) : j ∈ (rowsM i).view.set ↔ (j 0).val / 64 = i.val := by
  refine (Iff.of_eq (congrArg (fun S : Finset S512x16384.Idx => j ∈ S) (show (rowsM i).view.set = (Rect.unit (s := S512x16384) ![64 * i.val, 0] S64x16384.size (rows_inb i)).set from
    View.set_slice_whole _ _))).trans (Rect.mem_set_unit.trans ?_)
  have h1 : (j 1).val < 16384 := (j 1).isLt
  constructor
  · intro h; have := h 0; simp at this; omega
  · intro h a
    fin_cases a <;> simp <;> omega

/-- The elements of the chip's own half of the input tile. -/
theorem mem_vinA (d : Dev nD) (j : S64x32768.Idx) : j ∈ (vinAM d).view.set ↔ (j 1).val / 16384 = d.val % 2 := by
  refine (Iff.of_eq (congrArg (fun S : Finset S64x32768.Idx => j ∈ S) (show (vinAM d).view.set = (Rect.unit (s := S64x32768) (k0_off1 d) S64x16384.size (k0_off1_inb d)).set from
    View.set_slice_whole _ _))).trans (Rect.mem_set_unit.trans ?_)
  rw [off1_eq]
  have h0 : (j 0).val < 64 := (j 0).isLt
  have h1 : (j 1).val < 32768 := (j 1).isLt
  constructor
  · intro h; have := h 1; simp at this; omega
  · intro h a
    fin_cases a <;> simp <;> omega

/-- The elements of the other half of the input tile. -/
theorem mem_vinB (d : Dev nD) (j : S64x32768.Idx) : j ∈ (vinBM d).view.set ↔ (j 1).val / 16384 ≠ d.val % 2 := by
  refine (Iff.of_eq (congrArg (fun S : Finset S64x32768.Idx => j ∈ S) (show (vinBM d).view.set = (Rect.unit (s := S64x32768) (k0_off2 d) S64x16384.size (k0_off2_inb d)).set from
    View.set_slice_whole _ _))).trans (Rect.mem_set_unit.trans ?_)
  rw [off2_eq]
  have h0 : (j 0).val < 64 := (j 0).isLt
  have h1 : (j 1).val < 32768 := (j 1).isLt
  constructor
  · intro h; have := h 1; simp at this; omega
  · intro h a
    fin_cases a <;> simp <;> omega

/-- The elements of a tile of the chip's own rows of the result. -/
theorem mem_outA (d : Dev nD) (i : Fin 8) (j : S1024x32768.Idx) :
    j ∈ (outAM d i).view.set ↔ (j 0).val / 512 = d.val / 2 ∧ (j 0).val % 512 / 64 = i.val := by
  refine (Iff.of_eq (congrArg (fun S : Finset S1024x32768.Idx => j ∈ S) (show (outAM d i).view.set = (Rect.unit (s := S1024x32768) (k0_off3 d (BitVec.ofNat 32 (64 * i.val))) S64x32768.size (k0_off3_inb d i)).set from
    View.set_slice_whole _ _))).trans (Rect.mem_set_unit.trans ?_)
  rw [off3_eq]
  have h0 : (j 0).val < 1024 := (j 0).isLt
  have h1 : (j 1).val < 32768 := (j 1).isLt
  have hd : d.val < 4 := d.isLt
  constructor
  · intro h; have := h 0; simp at this; omega
  · intro h a
    fin_cases a <;> simp <;> omega

/-- The elements of a tile of the other rows of the result. -/
theorem mem_outB (d : Dev nD) (i : Fin 8) (j : S1024x32768.Idx) :
    j ∈ (outBM d i).view.set ↔ (j 0).val / 512 ≠ d.val / 2 ∧ (j 0).val % 512 / 64 = i.val := by
  refine (Iff.of_eq (congrArg (fun S : Finset S1024x32768.Idx => j ∈ S) (show (outBM d i).view.set = (Rect.unit (s := S1024x32768) (k0_off4 d (BitVec.ofNat 32 (64 * i.val))) S64x32768.size (k0_off4_inb d i)).set from
    View.set_slice_whole _ _))).trans (Rect.mem_set_unit.trans ?_)
  rw [off4_eq]
  have h0 : (j 0).val < 1024 := (j 0).isLt
  have h1 : (j 1).val < 32768 := (j 1).isLt
  have hd : d.val < 4 := d.isLt
  constructor
  · intro h; have := h 0; simp at this; omega
  · intro h a
    fin_cases a <;> simp <;> omega

/-! ## Contents -/

/-- The chips' blocks of the logits. -/
abbrev Blocks (F : FTy → Type) : Type := Dev nD → S512x16384.Idx → Elt F .bf16

/-- What chip `c`'s exchange buffer holds once everything has arrived. -/
def CC (B : Blocks F) (c : Dev nD) : S3x512x16384.Idx → Elt F .bf16 := fun j => B (srcOf (j 0) c) (ix2 (j 1) (j 2))

/-- The logits, put together from the chips' blocks. -/
def LL (B : Blocks F) : S1024x32768.Idx → Elt F .bf16 := fun j =>
  B (devOf ((j 0).val / 512) ((j 1).val / 16384)) (ix2 ⟨(j 0).val % 512, Nat.mod_lt _ (by decide)⟩ ⟨(j 1).val % 16384, Nat.mod_lt _ (by decide)⟩)

/-- The `n`-th row tile of the logits. -/
def VT (B : Blocks F) (n : Fin 16) : S64x32768.Idx → Elt F .bf16 := fun j =>
  LL B (ix2 ⟨64 * n.val + (j 0).val, by have : (j 0).val < 64 := (j 0).isLt; omega⟩ (j 1))

/-- The result: each row tile's softmax. -/
def OO (B : Blocks F) : S1024x32768.Idx → Elt F .f32 := fun j =>
  softTile (F := F) (VT B ⟨(j 0).val / 64, by have : (j 0).val < 1024 := (j 0).isLt; omega⟩) (ix2 ⟨(j 0).val % 64, Nat.mod_lt _ (by decide)⟩ (j 1))

/-- Rows `64 i .. 64 i + 63` of a block. -/
def cut (b : S512x16384.Idx → Elt F .bf16) (i : Fin 8) : S64x16384.Idx → Elt F .bf16 := fun x =>
  b (ix2 ⟨64 * i.val + (x 0).val, by have : (x 0).val < 64 := (x 0).isLt; omega⟩ (x 1))

/-- The number of chip `e`'s `i`-th row tile. -/
def nOf (e : Dev nD) (i : Fin 8) : Fin 16 := ⟨8 * (e.val / 2) + i.val, by have : e.val < 4 := e.isLt; omega⟩

/-! ## What the views read -/

/-- A plane, once landed, reads as its source's block. -/
theorem read_plane (B : Blocks F) (p : Fin 3) (c : Dev nD) : (planeM p).view.read (Elt F) (CC B c) = B (srcOf p c) := by
  funext x
  rw [eq_ix2 x]
  show CC B c ((planeM p).view.emb (ix2 (x 0) (x 1))) = _
  have he : (planeM p).view.emb (ix2 (x 0) (x 1)) = (ix3 p (x 0) (x 1) : S3x512x16384.Idx) := by
    show (Rect.unit (s := S3x512x16384) ![p.val, 0, 0] S1x512x16384.size (plane_inb p)).emb (Shape.reshapeEquiv _ (ix2 (x 0) (x 1))) = _
    refine (congrArg _ (reshapeEquiv_ix2_1ab (a := 512) (b := 16384) _ (x 0) (x 1))).trans ?_
    funext a
    match a with
    | ⟨0, _⟩ => exact Fin.ext (by simp [Rect.emb_apply])
    | ⟨1, _⟩ => exact Fin.ext (by simp [Rect.emb_apply])
    | ⟨2, _⟩ => exact Fin.ext (by simp [Rect.emb_apply])
  rw [he]; rfl

/-- A chunk, once landed, reads as rows of its source's block. -/
theorem read_chunk (B : Blocks F) (p : Fin 3) (i : Fin 8) (c : Dev nD) :
    (chunkM p i).view.read (Elt F) (CC B c) = cut (B (srcOf p c)) i := by
  funext x
  rw [eq_ix2 x]
  show CC B c ((chunkM p i).view.emb (ix2 (x 0) (x 1))) = _
  have hx : (x 0).val < 64 := (x 0).isLt
  have he : (chunkM p i).view.emb (ix2 (x 0) (x 1)) = (ix3 p ⟨64 * i.val + (x 0).val, by omega⟩ (x 1) : S3x512x16384.Idx) := by
    show (Rect.unit (s := S3x512x16384) ![p.val, 64 * i.val, 0] S1x64x16384.size (chunk_inb p i)).emb (Shape.reshapeEquiv _ (ix2 (x 0) (x 1))) = _
    refine (congrArg _ (reshapeEquiv_ix2_1ab (a := 64) (b := 16384) _ (x 0) (x 1))).trans ?_
    funext a
    match a with
    | ⟨0, _⟩ => exact Fin.ext (by simp [Rect.emb_apply])
    | ⟨1, _⟩ => exact Fin.ext (by simp [Rect.emb_apply])
    | ⟨2, _⟩ => exact Fin.ext (by simp [Rect.emb_apply])
  rw [he]; rfl

/-- A row tile reads as rows of the block. -/
theorem read_rows (b : S512x16384.Idx → Elt F .bf16) (i : Fin 8) : (rowsM i).view.read (Elt F) b = cut b i := by
  funext x
  show b ((rowsM i).view.emb x) = _
  unfold cut
  congr 1
  funext a
  match a with
  | ⟨0, _⟩ => exact Fin.ext (by show 64 * i.val + 1 * (x 0).val = 64 * i.val + (x 0).val; omega)
  | ⟨1, _⟩ => exact Fin.ext (by show 0 + 1 * (x 1).val = (x 1).val; omega)

/-- Where an element of the chip's own half lies in the input tile. -/
theorem emb_vinA (d : Dev nD) (x : S64x16384.Idx) : (vinAM d).view.emb x
    = (ix2 (x 0) ⟨16384 * (d.val % 2) + (x 1).val, by have : (x 1).val < 16384 := (x 1).isLt; omega⟩ : S64x32768.Idx) := by
  funext a
  match a with
  | ⟨0, _⟩ => exact Fin.ext (by show k0_off1 d 0 + 1 * (x 0).val = (x 0).val; rw [off1_eq]; simp)
  | ⟨1, _⟩ => exact Fin.ext (by show k0_off1 d 1 + 1 * (x 1).val = 16384 * (d.val % 2) + (x 1).val; rw [off1_eq]; simp)

/-- Where an element of the other half lies in the input tile. -/
theorem emb_vinB (d : Dev nD) (x : S64x16384.Idx) : (vinBM d).view.emb x
    = (ix2 (x 0) ⟨16384 * (1 - d.val % 2) + (x 1).val, by have : (x 1).val < 16384 := (x 1).isLt; omega⟩ : S64x32768.Idx) := by
  funext a
  match a with
  | ⟨0, _⟩ => exact Fin.ext (by show k0_off2 d 0 + 1 * (x 0).val = (x 0).val; rw [off2_eq]; simp)
  | ⟨1, _⟩ => exact Fin.ext (by show k0_off2 d 1 + 1 * (x 1).val = 16384 * (1 - d.val % 2) + (x 1).val; rw [off2_eq]; simp)

/-- A row tile of the logits at a column band is a cut of one chip's block. -/
theorem VT_band (B : Blocks F) (e : Dev nD) (i : Fin 8) (b : Nat) (hb : b < 2) (x : S64x16384.Idx) :
    VT B (nOf e i) (ix2 (x 0) ⟨16384 * b + (x 1).val, by have : (x 1).val < 16384 := (x 1).isLt; omega⟩)
      = cut (B (devOf (e.val / 2) b)) i x := by
  have h0 : (x 0).val < 64 := (x 0).isLt
  have h1 : (x 1).val < 16384 := (x 1).isLt
  have he : e.val < 4 := e.isLt
  unfold VT LL cut nOf
  have e1 : (64 * (8 * (e.val / 2) + i.val) + (x 0).val) / 512 = e.val / 2 := by omega
  have e2 : (16384 * b + (x 1).val) / 16384 = b := by omega
  have e3 : (64 * (8 * (e.val / 2) + i.val) + (x 0).val) % 512 = 64 * i.val + (x 0).val := by omega
  have e4 : (16384 * b + (x 1).val) % 16384 = (x 1).val := by omega
  show B (devOf ((64 * (8 * (e.val / 2) + i.val) + (x 0).val) / 512) ((16384 * b + (x 1).val) / 16384))
    (ix2 ⟨(64 * (8 * (e.val / 2) + i.val) + (x 0).val) % 512, _⟩ ⟨(16384 * b + (x 1).val) % 16384, _⟩) = _
  rw [e1, e2]
  congr 1
  funext a
  match a with
  | ⟨0, _⟩ => exact Fin.ext e3
  | ⟨1, _⟩ => exact Fin.ext e4

/-- In a whole row tile, the columns of the chip's own half are rows of the block that holds those rows and columns. -/
theorem read_vinA (B : Blocks F) (d e : Dev nD) (i : Fin 8) :
    (vinAM d).view.read (Elt F) (VT B (nOf e i)) = cut (B (devOf (e.val / 2) (d.val % 2))) i := by
  funext x
  show VT B (nOf e i) ((vinAM d).view.emb x) = _
  rw [emb_vinA, VT_band B e i _ (by omega)]

/-- In a whole row tile, the other columns are rows of the block that holds those rows and columns. -/
theorem read_vinB (B : Blocks F) (d e : Dev nD) (i : Fin 8) :
    (vinBM d).view.read (Elt F) (VT B (nOf e i)) = cut (B (devOf (e.val / 2) (1 - d.val % 2))) i := by
  funext x
  show VT B (nOf e i) ((vinBM d).view.emb x) = _
  rw [emb_vinB, VT_band B e i _ (by omega)]

/-- The chip at its own coordinates. -/
theorem dev_self (d : Dev nD) : devOf (d.val / 2) (d.val % 2) = d := by revert d; decide
/-- The chip at the `y` neighbour's coordinates. -/
theorem dev_y (d : Dev nD) : devOf (d.val / 2) (1 - d.val % 2) = yN d := by revert d; decide
/-- The chip at the `x` neighbour's coordinates. -/
theorem dev_x (d : Dev nD) : devOf ((xN d).val / 2) (d.val % 2) = xN d := by revert d; decide
/-- The chip diagonally across. -/
theorem dev_xy (d : Dev nD) : devOf ((xN d).val / 2) (1 - d.val % 2) = yN (xN d) := by revert d; decide
/-- The `x` neighbour has the other rows. -/
theorem half_xN (d : Dev nD) : (xN d).val / 2 = 1 - d.val / 2 := by revert d; decide

/-- The result, at row tile `n`. -/
theorem OO_at (B : Blocks F) (n : Fin 16) (r : Fin 64) (j : Fin 32768) (R : Fin 1024) (hR : R.val = 64 * n.val + r.val) :
    OO B (ix2 R j) = softTile (F := F) (VT B n) (ix2 r j) := by
  unfold OO
  have e1 : R.val / 64 = n.val := by omega
  have e2 : R.val % 64 = r.val := by omega
  show softTile (F := F) (VT B ⟨R.val / 64, _⟩) (ix2 ⟨R.val % 64, _⟩ j) = _
  rw [show (⟨R.val / 64, by omega⟩ : Fin 16) = n from Fin.ext e1, show (⟨R.val % 64, by omega⟩ : Fin 64) = r from Fin.ext e2]

/-- A tile of the chip's own rows of the whole result is the softmax of its input tile. -/
theorem read_outA (B : Blocks F) (d : Dev nD) (i : Fin 8) :
    (outAM d i).view.read (Elt F) (OO B) = softTile (F := F) (VT B (nOf d i)) := by
  funext x
  have hd : d.val < 4 := d.isLt
  have h0 : (x 0).val < 64 := (x 0).isLt
  show OO B ((outAM d i).view.emb x) = _
  have he : (outAM d i).view.emb x = (ix2 ⟨64 * (nOf d i).val + (x 0).val, by omega⟩ (x 1) : S1024x32768.Idx) := by
    funext a
    match a with
    | ⟨0, _⟩ => exact Fin.ext (by
        show k0_off3 d (BitVec.ofNat 32 (64 * i.val)) 0 + 1 * (x 0).val = 64 * (8 * (d.val / 2) + i.val) + (x 0).val
        rw [off3_eq]; show 512 * (d.val / 2) + 64 * i.val + 1 * (x 0).val = _; omega)
    | ⟨1, _⟩ => exact Fin.ext (by show k0_off3 d (BitVec.ofNat 32 (64 * i.val)) 1 + 1 * (x 1).val = (x 1).val; rw [off3_eq]; simp)
  rw [he, OO_at B (nOf d i) (x 0) (x 1) _ rfl]
  exact congrArg _ (eq_ix2 x).symm

/-- A tile of the other rows of the whole result is the softmax of its input tile. -/
theorem read_outB (B : Blocks F) (d : Dev nD) (i : Fin 8) :
    (outBM d i).view.read (Elt F) (OO B) = softTile (F := F) (VT B (nOf (xN d) i)) := by
  funext x
  have hd : d.val < 4 := d.isLt
  have h0 : (x 0).val < 64 := (x 0).isLt
  show OO B ((outBM d i).view.emb x) = _
  have he : (outBM d i).view.emb x = (ix2 ⟨64 * (nOf (xN d) i).val + (x 0).val, by omega⟩ (x 1) : S1024x32768.Idx) := by
    funext a
    match a with
    | ⟨0, _⟩ => exact Fin.ext (by
        show k0_off4 d (BitVec.ofNat 32 (64 * i.val)) 0 + 1 * (x 0).val = 64 * (8 * ((xN d).val / 2) + i.val) + (x 0).val
        rw [off4_eq, half_xN]; show 512 * (1 - d.val / 2) + 64 * i.val + 1 * (x 0).val = _; omega)
    | ⟨1, _⟩ => exact Fin.ext (by show k0_off4 d (BitVec.ofNat 32 (64 * i.val)) 1 + 1 * (x 1).val = (x 1).val; rw [off4_eq]; simp)
  rw [he, OO_at B (nOf (xN d) i) (x 0) (x 1) _ rfl]
  exact congrArg _ (eq_ix2 x).symm

/-- What a view writes is, at the view's elements, any contents the view reads it off. -/
theorem write_eq_of_read {sp : Space} {s : Shape} {e : EltTy} (v : View sig .tc sp s e) (f g : v.ty.Contents (Elt F)) (w : s.Idx → Elt F e)
    (h : v.read (Elt F) g = w) : ∀ i ∈ v.set, v.write (Elt F) f w Finset.univ i = g i := by
  intro i hi
  obtain ⟨x, -, rfl⟩ := Finset.mem_map.mp hi
  rw [View.write_emb_of_mem _ _ (Finset.mem_univ x), ← h, View.read_apply, cast_cast, cast_eq]

end Cert.KernelIdeal.Gen

end
-- ==== Proof.Protocol.lean ====
/-
  The protocol between the chips: which duties each semaphore collects, how much each pays and what
  each hands over, and what every chip owes at launch.

  One round. A chip's barrier collects one unit from each neighbour; with the unit a neighbour hands
  over the planes of its exchange buffer this chip will write. An arrival semaphore collects one
  copy's bytes and hands over the written part of the exchange buffer; a departure semaphore collects
  the same bytes on the sender's side and hands back the share of the source the copy read.
-/
module

public import proofs.«01_k».proof.Proof.Views
public import Idealize.ShloMosaic.Lib.Pipeline.Regions
public import Idealize.ShloMosaic.Lib.Pipeline.Kit
public import Idealize.ShloMosaic.Lib.Pipeline.BigSepL
public import Idealize.ShloMosaic.Lib.Rounds
public import Idealize.ShloMosaic.Lib.Transfers
public import Idealize.ShloMosaic.Lib.StableHlo
public import Idealize.ShloMosaic.Lib.Tactic

@[expose] public section

set_option maxRecDepth 8192

noncomputable section

namespace Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state's algebra -/

/-- The rounds of the chips' protocol; a duty's name is a truth value. -/
abbrev UB : Type := URounds (GSem nD τ sig) Bool
/-- The launch's own rounds, the protocol's, and the counters of the local copies. -/
abbrev UU : Type := UR sig nD τ × (UB × Counters)

local notation "𝕄" => MT nD τ sig Unit (Elt F) ℕ UU ℕ

/-- The pipeline's part of the algebra. -/
abbrev EP : Emb (UR sig nD τ) (MT nD τ sig Unit (Elt F) ℕ UU ℕ) := embL
/-- The protocol's part of the algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- The rounds' resource can be kept in an invariant. -/
instance ER_landsIn : (ER : Emb UB 𝕄).LandsIn (upEmb : UEmb _ 𝕄) := by unfold ER; infer_instance
/-- The local copies' part. -/
abbrev EC : UEmb Counters (MT nD τ sig Unit (Elt F) ℕ UU ℕ) := countersEmb

/-! ## Cells -/

/-- A chip's barrier counter. -/
abbrev barCell (c : Dev nD) : GSem nD τ sig := ((c : Thread nD τ), .reg barS)
/-- A chip's send counter `k`. -/
abbrev sendCell (c : Dev nD) (k : Fin 10) : GSem nD τ sig := ((c : Thread nD τ), .dma (sendS k))
/-- A chip's receive counter `k`. -/
abbrev recvCell (c : Dev nD) (k : Fin 10) : GSem nD τ sig := ((c : Thread nD τ), .dma (recvS k))

/-- The part a semaphore plays. -/
inductive Part where
  | bar | send (k : Fin 10) | recv (k : Fin 10) | own
deriving DecidableEq

/-- The part that a counter plays. -/
def partOf : SemLoc sig → Part
  | .reg _ => .bar
  | .dma s => if h : 3 ≤ s.val ∧ s.val < 13 then .send ⟨s.val - 3, by omega⟩
      else if h : 13 ≤ s.val ∧ s.val < 23 then .recv ⟨s.val - 13, by omega⟩ else .own

/-- The barrier counter's part. -/
theorem part_bar : partOf (.reg barS) = .bar := rfl
/-- A send counter's part. -/
theorem part_send (k : Fin 10) : partOf (.dma (sendS k)) = .send k := by revert k; decide
/-- A receive counter's part. -/
theorem part_recv (k : Fin 10) : partOf (.dma (recvS k)) = .recv k := by revert k; decide

/-- Different receive counters are different cells. -/
theorem recv_inj {c c' : Dev nD} {k k' : Fin 10} (h : recvCell c k = recvCell c' k') : c = c' ∧ k = k' := by
  have h2 := congrArg (fun g : GSem nD τ sig => partOf g.2) h
  dsimp only at h2
  rw [part_recv, part_recv] at h2
  exact ⟨congrArg (fun g : GSem nD τ sig => g.1.1) h, by injection h2⟩
/-- No receive counter is a barrier counter. -/
theorem recv_ne_bar (c c' : Dev nD) (k : Fin 10) : recvCell c k ≠ barCell c' := fun h => by cases congrArg Prod.snd h

/-! ## Points-to's -/

/-- The half of a share kept, and the half lent. -/
abbrev qKeep : PosShare TreeShare := fullShare.left
/-- The share of plane 0 that a forward reads. -/
abbrev qLend : PosShare TreeShare := fullShare.right
/-- The shares of the chip's own block that its two sends read. -/
def qBlk (k : Fin 10) : PosShare TreeShare := if k = 0 then fullShare.right.left else fullShare.right.right

/-- Chip `c`'s plane `p`, whole, at `f`. -/
abbrev plPts (c : Dev nD) (p : Fin 3) (f : S3x512x16384.Idx → Elt F .bf16) : sProp 𝕄 :=
  (planeM p).view.loc (c : Thread nD τ) ↦[(planeM p).view.set]{fullShare} f
/-- A share of chip `c`'s chunk `i` of plane `p`, at `f`. -/
abbrev ckPts (c : Dev nD) (p : Fin 3) (i : Fin 8) (q : PosShare TreeShare) (f : S3x512x16384.Idx → Elt F .bf16) : sProp 𝕄 :=
  (chunkM p i).view.loc (c : Thread nD τ) ↦[(chunkM p i).view.set]{q} f
/-- A share of chip `c`'s own block, at `f`. -/
abbrev blPts (c : Dev nD) (q : PosShare TreeShare) (f : S512x16384.Idx → Elt F .bf16) : sProp 𝕄 :=
  blkM.view.loc (c : Thread nD τ) ↦[blkM.view.set]{q} f

/-- A points-to may be held in an invariant. -/
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance
/-- A plane can be kept in an invariant. -/
instance plPts_storable (c : Dev nD) (p : Fin 3) (f : S3x512x16384.Idx → Elt F .bf16) : BI.Storable (upEmb : UEmb _ 𝕄) (plPts c p f) :=
  pts_storable ((planeM p).view.loc (c : Thread nD τ)) (planeM p).view.set fullShare f
/-- A chunk can be kept in an invariant. -/
instance ckPts_storable (c : Dev nD) (p : Fin 3) (i : Fin 8) (q : PosShare TreeShare) (f : S3x512x16384.Idx → Elt F .bf16) :
    BI.Storable (upEmb : UEmb _ 𝕄) (ckPts c p i q f) :=
  pts_storable ((chunkM p i).view.loc (c : Thread nD τ)) (chunkM p i).view.set q f

/-! ## Amounts -/

/-- What a copy of a whole block pays. -/
def NB : ℕ := blkM.view.dmaCredit
/-- What a copy of a chunk pays. -/
def NC : ℕ := (chunkM 0 0).view.dmaCredit
/-- A whole block counts something. -/
theorem NB_pos : 0 < NB := View.dmaCredit_pos _ (by decide)
/-- A chunk counts something. -/
theorem NC_pos : 0 < NC := View.dmaCredit_pos _ (by decide)

/-- What the `k`-th copy pays. -/
def credOf (k : Fin 10) : ℕ := if k.val < 2 then NB else NC
/-- Every copy counts something. -/
theorem credOf_pos (k : Fin 10) : 0 < credOf k := by unfold credOf; split; exacts [NB_pos, NC_pos]

/-- The semaphores' number of chunk `i`. -/
abbrev up (i : Fin 8) : Fin 10 := ⟨2 + i.val, by omega⟩
/-- The chunk of a semaphores' number. -/
abbrev dn (k : Fin 10) : Fin 8 := ⟨k.val - 2, by omega⟩
/-- Forward `i` is the copy of chunk `i`. -/
theorem dn_up (i : Fin 8) : dn (up i) = i := by revert i; decide
/-- A forward counts one chunk. -/
theorem credOf_up (i : Fin 8) : credOf (up i) = NC := if_neg (by show ¬ (2 + i.val < 2); omega)
/-- Copy 0 counts one block. -/
theorem credOf_0 : credOf 0 = NB := rfl
/-- Copy 1 counts one block. -/
theorem credOf_1 : credOf 1 = NB := rfl

/-- The chip the `k`-th copy of chip `c` reaches. -/
def dest (k : Fin 10) (c : Dev nD) : Dev nD := if k = 0 then yN c else xN c
/-- A copy's target sends the like copy back. -/
theorem dest_dest (k : Fin 10) (c : Dev nD) : dest k (dest k c) = c := by
  unfold dest; split; exacts [yN_yN c, xN_xN c]
/-- Forwards go to the `x` neighbour. -/
theorem dest_up (i : Fin 8) (c : Dev nD) : dest (up i) c = xN c :=
  if_neg (fun h => by have := congrArg Fin.val h; simp at this)

/-! ## Payloads -/

/-- Every arrival semaphore of chip `c` is open. -/
def opens (c : Dev nD) : sProp 𝕄 := bigSep Finset.univ fun k : Fin 10 => reached ER (recvCell c k) 0
/-- The fact that the receive cells are open may be used any number of times. -/
instance opens_persistent (c : Dev nD) : BI.Persistent (opens (F := F) c) := by unfold opens; infer_instance
/-- One receive cell of the open ones. -/
theorem opens_at (c : Dev nD) (k : Fin 10) : opens (F := F) c ⊢ reached ER (recvCell c k) 0 :=
  bigSep_elim (Φ := fun k : Fin 10 => (reached ER (recvCell c k) 0 : sProp 𝕄)) (Finset.mem_univ k)

/-- With its unit the `y` neighbour `e` hands over its plane 0, -/
def barPayY (e : Dev nD) : sProp 𝕄 := iprop((∃ f, plPts e 0 f) ∗ opens e)
/-- the `x` neighbour its planes 1 and 2. -/
def barPayX (e : Dev nD) : sProp 𝕄 := iprop((∃ f, plPts e 1 f) ∗ (∃ f, plPts e 2 f) ∗ opens e)
/-- What a departure hands back: the share of the source it read. -/
def sendPay (B : Blocks F) (c : Dev nD) (k : Fin 10) : sProp 𝕄 :=
  if k.val < 2 then blPts c (qBlk k) (B c) else ckPts c 0 (dn k) qLend (CC B c)
/-- What an arrival hands over: the part it wrote. -/
def recvPay (B : Blocks F) (c : Dev nD) (k : Fin 10) : sProp 𝕄 :=
  if h : k.val < 2 then plPts c ⟨k.val, by omega⟩ (CC B c) else ckPts c 2 (dn k) fullShare (CC B c)

/-- What duty `d` of a cell of chip `c` hands over. -/
def payOf (B : Blocks F) (c : Dev nD) : Part → Bool → sProp 𝕄
  | .bar, false => barPayY (yN c)
  | .bar, true => barPayX (xN c)
  | .send k, _ => sendPay B c k
  | .recv k, _ => recvPay B c k
  | .own, _ => iprop(emp)

/-- Every payload can be kept in an invariant. -/
instance payOf_storable (B : Blocks F) (c : Dev nD) (p : Part) (d : Bool) : BI.Storable (upEmb : UEmb _ 𝕄) (payOf B c p d) := by
  cases p with
  | bar => cases d <;> (dsimp only [payOf]; first | unfold barPayY | unfold barPayX) <;> unfold opens <;> infer_instance
  | send k => dsimp only [payOf]; unfold sendPay; split <;> infer_instance
  | recv k => dsimp only [payOf]; unfold recvPay; split <;> infer_instance
  | own => dsimp only [payOf]; infer_instance

/-- The duties of a part's one round. -/
def dutiesOf : Part → Finset Bool
  | .bar => {false, true}
  | .send _ => {false}
  | .recv _ => {false}
  | .own => ∅

/-- How much each duty of a part counts. -/
def amountOf : Part → ℕ
  | .bar => 1
  | .send k => credOf k
  | .recv k => credOf k
  | .own => 1

/-- Every duty counts something. -/
theorem amountOf_pos (p : Part) : 0 < amountOf p := by
  cases p with
  | bar => exact Nat.one_pos
  | send k => exact credOf_pos k
  | recv k => exact credOf_pos k
  | own => exact Nat.one_pos

/-- The schedule: one round on every cell of a TensorCore. -/
def Rd (B : Blocks F) : Rounds.Schedule (GSem nD τ sig) Bool 𝕄 where
  duties g r := if r = 0 ∧ g.1.2 = .tc then dutiesOf (partOf g.2) else ∅
  unitless _ := False
  amount g _ _ := amountOf (partOf g.2)
  payload g _ d := payOf B g.1.1 (partOf g.2) d
  amount_pos g _ _ _ := amountOf_pos _

/-- Every payload of the schedule can be kept in an invariant. -/
instance Rd_payload_storable (B : Blocks F) (g : GSem nD τ sig) (r : ℕ) (d : Bool) :
    BI.Storable (upEmb : UEmb _ 𝕄) ((Rd B).payload g r d) := payOf_storable B g.1.1 (partOf g.2) d

section Sched

variable (B : Blocks F) (c : Dev nD)

/-- The barrier has two duties. -/
theorem duties_bar : (Rd B).duties (barCell c) 0 = {false, true} := by dsimp only [Rd]; exact if_pos ⟨rfl, rfl⟩
/-- A send counter has one duty. -/
theorem duties_send (k : Fin 10) : (Rd B).duties (sendCell c k) 0 = {false} := by
  dsimp only [Rd]; rw [part_send]; exact if_pos ⟨rfl, rfl⟩
/-- A receive counter has one duty. -/
theorem duties_recv (k : Fin 10) : (Rd B).duties (recvCell c k) 0 = {false} := by
  dsimp only [Rd]; rw [part_recv]; exact if_pos ⟨rfl, rfl⟩
/-- There is one round only. -/
theorem duties_later (g : GSem nD τ sig) : ∀ r, 1 ≤ r → (Rd B).duties g r = ∅ :=
  fun r hr => by dsimp only [Rd]; exact if_neg (fun h => by omega)

/-- A barrier duty counts one. -/
theorem amount_bar (d : Bool) : (Rd B).amount (barCell c) 0 d = 1 := rfl
/-- A send duty counts its copy. -/
theorem amount_send (k : Fin 10) (d : Bool) : (Rd B).amount (sendCell c k) 0 d = credOf k := by
  show amountOf (partOf (.dma (sendS k))) = _; rw [part_send]; rfl
/-- A receive duty counts its copy. -/
theorem amount_recv (k : Fin 10) (d : Bool) : (Rd B).amount (recvCell c k) 0 d = credOf k := by
  show amountOf (partOf (.dma (recvS k))) = _; rw [part_recv]; rfl

/-- The barrier waits for two. -/
theorem expect_bar : (Rd B).expect (barCell c) 0 = 2 := by
  unfold Schedule.expect Schedule.amountOf
  rw [duties_bar, Finset.sum_pair (by decide), amount_bar, amount_bar]
/-- A send wait is for its copy. -/
theorem expect_send (k : Fin 10) : (Rd B).expect (sendCell c k) 0 = credOf k := by
  unfold Schedule.expect Schedule.amountOf; rw [duties_send, Finset.sum_singleton, amount_send]
/-- A receive wait is for its copy. -/
theorem expect_recv (k : Fin 10) : (Rd B).expect (recvCell c k) 0 = credOf k := by
  unfold Schedule.expect Schedule.amountOf; rw [duties_recv, Finset.sum_singleton, amount_recv]

/-- What the `y` neighbour's signal hands over. -/
theorem payload_barY : (Rd B).payload (barCell c) 0 false = barPayY (yN c) := rfl
/-- What the `x` neighbour's signal hands over. -/
theorem payload_barX : (Rd B).payload (barCell c) 0 true = barPayX (xN c) := rfl
/-- What a departure hands back. -/
theorem payload_send (k : Fin 10) (d : Bool) : (Rd B).payload (sendCell c k) 0 d = sendPay B c k := by
  show payOf B c (partOf (.dma (sendS k))) d = _; rw [part_send]; rfl
/-- What an arrival hands over. -/
theorem payload_recv (k : Fin 10) (d : Bool) : (Rd B).payload (recvCell c k) 0 d = recvPay B c k := by
  show payOf B c (partOf (.dma (recvS k))) d = _; rw [part_recv]; rfl

/-- What the barrier's wait takes. -/
theorem rest_bar : bigSep ((Rd B).duties (barCell c) 0 \ ∅) (fun d => (Rd B).payload (barCell c) 0 d)
    = iprop(barPayY (yN c) ∗ barPayX (xN c)) := by
  rw [Finset.sdiff_empty, duties_bar, bigSep_insert (by decide), bigSep_singleton, payload_barY, payload_barX]; rfl
/-- What a send wait takes. -/
theorem rest_send (k : Fin 10) : bigSep ((Rd B).duties (sendCell c k) 0 \ ∅) (fun d => (Rd B).payload (sendCell c k) 0 d) = sendPay B c k := by
  rw [Finset.sdiff_empty, duties_send, bigSep_singleton, payload_send]
/-- What a receive wait takes. -/
theorem rest_recv (k : Fin 10) : bigSep ((Rd B).duties (recvCell c k) 0 \ ∅) (fun d => (Rd B).payload (recvCell c k) 0 d) = recvPay B c k := by
  rw [Finset.sdiff_empty, duties_recv, bigSep_singleton, payload_recv]

/-- Copy 0 hands back its share of the block. -/
theorem sendPay_0 : sendPay B c 0 = blPts c (qBlk 0) (B c) := rfl
/-- Copy 1 hands back its share of the block. -/
theorem sendPay_1 : sendPay B c 1 = blPts c (qBlk 1) (B c) := rfl
/-- A forward hands back its share of a chunk of plane 0. -/
theorem sendPay_up (i : Fin 8) : sendPay B c (up i) = ckPts c 0 i qLend (CC B c) := by
  unfold sendPay
  rw [if_neg (show ¬ (up i).val < 2 by show ¬ (2 + i.val < 2); omega), dn_up]
/-- Copy 0 hands over plane 0. -/
theorem recvPay_0 : recvPay B c 0 = plPts c 0 (CC B c) := rfl
/-- Copy 1 hands over plane 1. -/
theorem recvPay_1 : recvPay B c 1 = plPts c 1 (CC B c) := rfl
/-- A forward hands over a chunk of plane 2. -/
theorem recvPay_up (i : Fin 8) : recvPay B c (up i) = ckPts c 2 i fullShare (CC B c) := by
  unfold recvPay
  rw [dif_neg (show ¬ (up i).val < 2 by show ¬ (2 + i.val < 2); omega), dn_up]

end Sched

/-! ## What each chip owes -/

/-- The arrivals of the chunks in a list, at the `x` neighbour of `c`. -/
def OF (c : Dev nD) : List (Fin 8) → CellTallies nD τ sig Unit
  | [] => 0
  | i :: l => OF c l + tallyAt (recvCell (xN c) (up i)) () NC

/-- What chip `c` owes past the barrier: the arrivals of all its copies. -/
def OR (c : Dev nD) : CellTallies nD τ sig Unit :=
  OF c eight + tallyAt (recvCell (xN c) 1) () NB + tallyAt (recvCell (yN c) 0) () NB
/-- What chip `c` owes at launch: those, and a unit on each neighbour's barrier. -/
def O₀ (c : Dev nD) : CellTallies nD τ sig Unit := OR c + tallyAt (barCell (xN c)) () 1 + tallyAt (barCell (yN c)) () 1

/-- The counters that have a level: those of the chips' cores. -/
def L (g : GSem nD τ sig) : Finset Unit := if g.1.2 = .tc then {()} else ∅
/-- A part's level: a chip waits on a cell only while everything it owes lies above. -/
def lvOf : Part → ℕ
  | .bar => 1
  | .recv k => if k = 0 then 2 else 3
  | _ => 0
/-- A counter's level. -/
def lv (g : GSem nD τ sig) (_ : Unit) : ℕ := lvOf (partOf g.2)

/-- No other thread's counters have a level. -/
theorem L_of_ne (g : GSem nD τ sig) (h : g.1.2 ≠ .tc) : L g = ∅ := if_neg h
/-- A core's counters have one. -/
theorem L_tc (c : Dev nD) (sm : SemLoc sig) : L ((c : Thread nD τ), sm) = {()} := if_pos rfl
/-- A receive counter's level: plane 0 lies below the rest. -/
theorem lv_recv (c : Dev nD) (k : Fin 10) (u : Unit) : lv (recvCell c k) u = if k = 0 then 2 else 3 := by
  unfold lv; rw [part_recv]; rfl

/-- A single debt is owed at its own counter. -/
theorem tally_pos {g g' : GSem nD τ sig} {u u' : Unit} {n : ℕ} (h : 0 < (tallyAt g u n : CellTallies nD τ sig Unit) g' u') : g' = g := by
  rw [tallyAt_apply] at h
  by_contra hn
  rw [if_neg (fun e => hn e.1)] at h
  exact absurd h (Nat.lt_irrefl 0)
/-- What two debts owe together, one of them owes. -/
theorem add_pos' {A B : CellTallies nD τ sig Unit} {g : GSem nD τ sig} {u : Unit} (h : 0 < (A + B) g u) : 0 < A g u ∨ 0 < B g u := by
  rw [Pi.add_apply, Finsupp.add_apply] at h
  exact Nat.add_pos_iff_pos_or_pos.mp h

/-- The forwards owe at the `x` neighbour's receive counters. -/
theorem OF_pos (c : Dev nD) : ∀ (l : List (Fin 8)) {g : GSem nD τ sig} {u : Unit}, 0 < OF c l g u → ∃ i, g = recvCell (xN c) (up i)
  | [], g, u, h => absurd h (Nat.lt_irrefl 0)
  | i :: l, g, u, h => (add_pos' h).elim (OF_pos c l) fun h => ⟨i, tally_pos h⟩
/-- The copies owe at receive counters. -/
theorem OR_pos (c : Dev nD) {g : GSem nD τ sig} {u : Unit} (h : 0 < OR c g u) : ∃ e k, g = recvCell e k := by
  rcases add_pos' h with h | h
  · rcases add_pos' h with h | h
    · obtain ⟨i, rfl⟩ := OF_pos c _ h; exact ⟨_, _, rfl⟩
    · exact ⟨_, _, tally_pos h⟩
  · exact ⟨_, _, tally_pos h⟩
/-- A chip owes at receive and barrier counters. -/
theorem O₀_pos (c : Dev nD) {g : GSem nD τ sig} {u : Unit} (h : 0 < O₀ c g u) : (∃ e k, g = recvCell e k) ∨ ∃ e, g = barCell e := by
  rcases add_pos' h with h | h
  · rcases add_pos' h with h | h
    · exact .inl (OR_pos c h)
    · exact .inr ⟨_, tally_pos h⟩
  · exact .inr ⟨_, tally_pos h⟩

/-- A chip may wait at the barrier while it owes all its copies. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨e, k, rfl⟩ := OR_pos c hg; rw [L_tc]; exact Finset.mem_singleton_self _)
    (fun p hp => by rw [Finset.mem_singleton.mp hp]; exact le_refl _)
    (fun g u hg => by obtain ⟨e, k, rfl⟩ := OR_pos c hg; rw [lv_recv]; split <;> decide)

/-- A chip may wait for plane 0 while it owes its forwards. -/
theorem mayWait_recv0 (c : Dev nD) : (levAts L lv : sProp 𝕄) ⊢ MayWait (c : Thread nD τ) (.dma (recvS 0)) () (OF c eight) :=
  MayOwe.of_cut (L := L) (lev := lv) 2 (fun p hp => by rw [Finset.mem_singleton.mp hp, L_tc]; exact Finset.mem_singleton_self _)
    (fun g u hg => by obtain ⟨i, rfl⟩ := OF_pos c _ hg; rw [L_tc]; exact Finset.mem_singleton_self _)
    (fun p hp => by rw [Finset.mem_singleton.mp hp]; exact le_of_eq (lv_recv c 0 ()))
    (fun g u hg => by
      obtain ⟨i, rfl⟩ := OF_pos c _ hg
      rw [lv_recv, if_neg (fun h => by have := congrArg Fin.val h; simp at this)]; decide)

/-! ## The ghost state a chip carries -/

/-- The barrier cells, live at launch; the departures' and arrivals' cells, opened when the region is entered. -/
def barEmb : Dev nD ↪ GSem nD τ sig := ⟨fun c => barCell c, fun _ _ h => congrArg (fun g : GSem nD τ sig => g.1.1) h⟩
/-- The semaphores the region owns: the copies' in and out, the departures', the arrivals'. -/
def osem : Fin 3 ⊕ (Fin 10 ⊕ Fin 10) → SemLoc sig
  | .inl k => .dma (if k = 0 then inS 0 else if k = 1 then inS 1 else outS)
  | .inr (.inl k) => .dma (sendS k)
  | .inr (.inr k) => .dma (recvS k)
/-- The call's own counters are different. -/
theorem osem_inj : Function.Injective osem := by decide

/-- All send and receive counters. -/
def scEmb : Dev nD × (Fin 10 ⊕ Fin 10) ↪ GSem nD τ sig :=
  ⟨fun ck => ((ck.1 : Thread nD τ), osem (.inr ck.2)), fun _ _ h =>
    Prod.ext (congrArg (fun g : GSem nD τ sig => g.1.1) h) (Sum.inr_injective (osem_inj (congrArg Prod.snd h)))⟩

/-- All barrier cells. -/
abbrev barCells : Finset (GSem nD τ sig) := Finset.univ.map barEmb
/-- All send and receive cells. -/
abbrev scCells : Finset (GSem nD τ sig) := Finset.univ.map scEmb

/-- Every cell's invariant, at the names `κ`. -/
def invs (B : Blocks F) (κ : GSem nD τ sig → ℕ) : sProp 𝕄 := bigSep (barCells ∪ scCells) fun g => cellInv ER (Rd B) (κ g) g
/-- The cells' invariants may be used any number of times. -/
instance invs_persistent (B : Blocks F) (κ : GSem nD τ sig → ℕ) : BI.Persistent (invs B κ) := by unfold invs; infer_instance

/-- The invariant of one barrier cell. -/
theorem inv_bar (B : Blocks F) (κ : GSem nD τ sig → ℕ) (c : Dev nD) : invs B κ ⊢ cellInv ER (Rd B) (κ (barCell c)) (barCell c) :=
  bigSep_elim (Φ := fun g => (cellInv ER (Rd B) (κ g) g : sProp 𝕄)) (Finset.mem_union_left _ (Finset.mem_map_of_mem barEmb (Finset.mem_univ c)))
/-- The invariant of one send cell. -/
theorem inv_send (B : Blocks F) (κ : GSem nD τ sig → ℕ) (c : Dev nD) (k : Fin 10) :
    invs B κ ⊢ cellInv ER (Rd B) (κ (sendCell c k)) (sendCell c k) :=
  bigSep_elim (Φ := fun g => (cellInv ER (Rd B) (κ g) g : sProp 𝕄))
    (Finset.mem_union_right _ (Finset.mem_map_of_mem scEmb (Finset.mem_univ (c, (Sum.inl k : Fin 10 ⊕ Fin 10)))))
/-- The invariant of one receive cell. -/
theorem inv_recv (B : Blocks F) (κ : GSem nD τ sig → ℕ) (c : Dev nD) (k : Fin 10) :
    invs B κ ⊢ cellInv ER (Rd B) (κ (recvCell c k)) (recvCell c k) :=
  bigSep_elim (Φ := fun g => (cellInv ER (Rd B) (κ g) g : sProp 𝕄))
    (Finset.mem_union_right _ (Finset.mem_map_of_mem scEmb (Finset.mem_univ (c, (Sum.inr k : Fin 10 ⊕ Fin 10)))))

/-- What chip `c` pays its two sides of the `k`-th copy with. -/
def payToks (c : Dev nD) (k : Fin 10) : sProp 𝕄 := iprop(dutyTok ER (sendCell c k) 0 false ∗ dutyTok ER (recvCell (dest k c) k) 0 false)

/-- What chip `c` carries from launch to the region: its barrier's position, the right to open its departures' and
    arrivals' cells, that its neighbours' barriers are open, the tokens of the duties it pays, and the credit it waits with. -/
def ghost (B : Blocks F) (κ : GSem nD τ sig → ℕ) (c : Dev nD) : sProp 𝕄 :=
  iprop(invs B κ ∗ atPos ER (barCell c) 0 ∅ 0
    ∗ (bigSep Finset.univ fun k : Fin 10 => openTok ER (sendCell c k)) ∗ (bigSep Finset.univ fun k : Fin 10 => openTok ER (recvCell c k))
    ∗ reached ER (barCell (yN c)) 0 ∗ reached ER (barCell (xN c)) 0
    ∗ dutyTok ER (barCell (yN c)) 0 false ∗ dutyTok ER (barCell (xN c)) 0 true
    ∗ bigSep Finset.univ fun k : Fin 10 => payToks c k)

/-- The credit chip `c` waits with. -/
def credits (c : Dev nD) : sProp 𝕄 :=
  iprop(cred (tallyAt (barCell c) () 2) ∗ bigSep Finset.univ fun k : Fin 10 => cred (tallyAt (recvCell c k) () (credOf k)))

/-- A copy's departure side, ready to pay and to wait: the cell open at the start. -/
def sendRdy (c : Dev nD) (k : Fin 10) : sProp 𝕄 := iprop(atPos ER (sendCell c k) 0 ∅ 0 ∗ reached ER (sendCell c k) 0 ∗ payToks c k)
/-- A copy's arrival side, ready to wait. -/
def recvRdy (c : Dev nD) (k : Fin 10) : sProp 𝕄 := iprop(atPos ER (recvCell c k) 0 ∅ 0 ∗ cred (tallyAt (recvCell c k) () (credOf k)))

/-- The same once the region's cells are open. -/
def opened (B : Blocks F) (κ : GSem nD τ sig → ℕ) (c : Dev nD) : sProp 𝕄 :=
  iprop(invs B κ ∗ opens c ∗ reached ER (barCell (yN c)) 0 ∗ reached ER (barCell (xN c)) 0
    ∗ atPos ER (barCell c) 0 ∅ 0 ∗ cred (tallyAt (barCell c) () 2)
    ∗ dutyTok ER (barCell (yN c)) 0 false ∗ dutyTok ER (barCell (xN c)) 0 true
    ∗ (bigSep Finset.univ fun k : Fin 10 => sendRdy c k) ∗ bigSep Finset.univ fun k : Fin 10 => recvRdy c k)

/-- No loop needs a variant. -/
abbrev 𝒱₀ : Variants := Variants.none

end Cert.KernelIdeal.Gen

end
-- ==== Proof.Tile.lean ====
/-
  One row tile's run, and the ways the buffers come apart: the exchange buffer into planes and chunks, a block into
  chunks, the result into row tiles, the input tile into its two halves.
-/
module

public import proofs.«01_k».proof.Proof.Protocol

@[expose] public section

set_option maxRecDepth 8192

noncomputable section

namespace Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Splitting by a key -/

/-- A points-to comes apart along the values of a key. -/
theorem pts_by_key {T : Type} [Fintype T] {ℓ : Loc nD τ sig} {q : PosShare TreeShare} {f : Buf (Elt F) ℓ}
    (S : Finset (Idx ℓ)) (K : T → Finset (Idx ℓ)) (key : Idx ℓ → T) (h : ∀ t i, i ∈ K t ↔ i ∈ S ∧ key i = t) :
    (ℓ ↦[S]{q} f : sProp 𝕄) = bigSep Finset.univ fun t => ℓ ↦[K t]{q} f := by
  rw [← pointsTo_biUnion Finset.univ K (fun t _ t' _ hne => Finset.disjoint_left.mpr fun i hi hi' =>
    hne (((h t i).mp hi).2.symm.trans ((h t' i).mp hi').2))]
  congr 1
  ext i
  rw [Finset.mem_biUnion]
  exact ⟨fun hi => ⟨key i, Finset.mem_univ _, (h _ i).mpr ⟨hi, rfl⟩⟩, fun ⟨t, _, hi⟩ => ((h t i).mp hi).1⟩

/-- A share of chip `c`'s rows `i` of its own block, at `f`. -/
abbrev rwPts (c : Dev nD) (i : Fin 8) (q : PosShare TreeShare) (f : S512x16384.Idx → Elt F .bf16) : sProp 𝕄 :=
  (rowsM i).view.loc (c : Thread nD τ) ↦[(rowsM i).view.set]{q} f
/-- Chip `c`'s row tile `i` of the result within its own rows, at `f`. -/
abbrev oaPts (c : Dev nD) (i : Fin 8) (f : S1024x32768.Idx → Elt F .f32) : sProp 𝕄 :=
  (outAM c i).view.loc (c : Thread nD τ) ↦[(outAM c i).view.set]{fullShare} f
/-- Chip `c`'s row tile `i` of the result within the other rows, at `f`. -/
abbrev obPts (c : Dev nD) (i : Fin 8) (f : S1024x32768.Idx → Elt F .f32) : sProp 𝕄 :=
  (outBM c i).view.loc (c : Thread nD τ) ↦[(outBM c i).view.set]{fullShare} f
/-- Chip `c`'s exchange buffer, whole, at `f`. -/
abbrev cmPts (c : Dev nD) (f : S3x512x16384.Idx → Elt F .bf16) : sProp 𝕄 :=
  commM.view.loc (c : Thread nD τ) ↦{fullShare} f
/-- Chip `c`'s result, whole, at `f`. -/
abbrev otPts (c : Dev nD) (f : S1024x32768.Idx → Elt F .f32) : sProp 𝕄 :=
  outM.view.loc (c : Thread nD τ) ↦{fullShare} f
/-- Chip `c`'s input tile, whole, at `f`. -/
abbrev viPts (c : Dev nD) (f : S64x32768.Idx → Elt F .bf16) : sProp 𝕄 :=
  vinM.view.loc (c : Thread nD τ) ↦{fullShare} f
/-- Chip `c`'s output tile, whole, at `f`. -/
abbrev voPts (c : Dev nD) (f : S64x32768.Idx → Elt F .f32) : sProp 𝕄 :=
  voutM.view.loc (c : Thread nD τ) ↦{fullShare} f

/-- The exchange buffer is its three planes. -/
theorem comm_planes (c : Dev nD) (f : S3x512x16384.Idx → Elt F .bf16) :
    cmPts c f = bigSep Finset.univ fun p : Fin 3 => plPts c p f :=
  pts_by_key (ℓ := commM.view.loc (c : Thread nD τ)) Finset.univ (fun p => (planeM p).view.set) (fun j : S3x512x16384.Idx => (j 0 : Fin 3)) fun p j =>
    (mem_plane p j).trans ⟨fun h => ⟨Finset.mem_univ _, Fin.ext h⟩, fun h => congrArg Fin.val h.2⟩

/-- A plane is its eight chunks. -/
theorem plane_chunks (c : Dev nD) (p : Fin 3) (f : S3x512x16384.Idx → Elt F .bf16) :
    plPts c p f = bigSep Finset.univ fun i : Fin 8 => ckPts c p i fullShare f :=
  pts_by_key (ℓ := commM.view.loc (c : Thread nD τ)) (planeM p).view.set (fun i => (chunkM p i).view.set)
    (fun j : S3x512x16384.Idx => (⟨(j 1).val / 64, by have : (j 1).val < 512 := (j 1).isLt; omega⟩ : Fin 8)) fun i j =>
    (mem_chunk p i j).trans ⟨fun h => ⟨(mem_plane p j).mpr h.1, Fin.ext h.2⟩, fun h => ⟨(mem_plane p j).mp h.1, congrArg Fin.val h.2⟩⟩

/-- A block is its eight chunks. -/
theorem blk_rows (c : Dev nD) (q : PosShare TreeShare) (f : S512x16384.Idx → Elt F .bf16) :
    blPts c q f = bigSep Finset.univ fun i : Fin 8 => rwPts c i q f :=
  pts_by_key (ℓ := blkM.view.loc (c : Thread nD τ)) blkM.view.set (fun i => (rowsM i).view.set)
    (fun j : S512x16384.Idx => (⟨(j 0).val / 64, by have : (j 0).val < 512 := (j 0).isLt; omega⟩ : Fin 8)) fun i j =>
    (mem_rows i j).trans ⟨fun h => ⟨by rw [show blkM.view.set = Finset.univ from View.set_whole _]; exact Finset.mem_univ _, Fin.ext h⟩, fun h => congrArg Fin.val h.2⟩

/-- The result is its sixteen row tiles. -/
theorem out_tiles (c : Dev nD) (f : S1024x32768.Idx → Elt F .f32) :
    otPts c f = iprop((bigSep Finset.univ fun i : Fin 8 => oaPts c i f) ∗ bigSep Finset.univ fun i : Fin 8 => obPts c i f) := by
  have hm : ∀ (t : Fin 8 ⊕ Fin 8) (j : S1024x32768.Idx),
      j ∈ (Sum.elim (fun i => (outAM c i).view.set) (fun i => (outBM c i).view.set) t : Finset S1024x32768.Idx)
        ↔ j ∈ (Finset.univ : Finset S1024x32768.Idx) ∧ (if (j 0).val / 512 = c.val / 2
            then Sum.inl (⟨(j 0).val % 512 / 64, by omega⟩ : Fin 8) else Sum.inr (⟨(j 0).val % 512 / 64, by omega⟩ : Fin 8)) = t := by
    rintro (i | i) j
    · refine (mem_outA c i j).trans ?_
      constructor
      · rintro ⟨h, h'⟩; exact ⟨Finset.mem_univ _, by rw [if_pos h]; exact congrArg _ (Fin.ext h')⟩
      · rintro ⟨-, h⟩
        split at h
        · next h' => exact ⟨h', congrArg Fin.val (Sum.inl_injective h)⟩
        · cases h
    · refine (mem_outB c i j).trans ?_
      constructor
      · rintro ⟨h, h'⟩; exact ⟨Finset.mem_univ _, by rw [if_neg h]; exact congrArg _ (Fin.ext h')⟩
      · rintro ⟨-, h⟩
        split at h
        · cases h
        · next h' => exact ⟨h', congrArg Fin.val (Sum.inr_injective h)⟩
  refine (pts_by_key (ℓ := outM.view.loc (c : Thread nD τ)) Finset.univ _ _ hm).trans ?_
  exact bigSep_univ_sum _

/-- The input tile is its two halves. -/
theorem vin_halves (c : Dev nD) (f : S64x32768.Idx → Elt F .bf16) :
    viPts c f = iprop(((vinAM c).view.loc (c : Thread nD τ) ↦[(vinAM c).view.set]{fullShare} f)
      ∗ ((vinBM c).view.loc (c : Thread nD τ) ↦[(vinBM c).view.set]{fullShare} f)) := by
  have hm : ∀ (t : Fin 2) (j : S64x32768.Idx),
      j ∈ (if t = 0 then (vinAM c).view.set else (vinBM c).view.set : Finset S64x32768.Idx)
        ↔ j ∈ (Finset.univ : Finset S64x32768.Idx) ∧ (if (j 1).val / 16384 = c.val % 2 then (0 : Fin 2) else 1) = t := by
    intro t j
    match t with
    | 0 =>
      refine (mem_vinA c j).trans ?_
      constructor
      · intro h; exact ⟨Finset.mem_univ _, if_pos h⟩
      · rintro ⟨-, h⟩; by_contra hn; rw [if_neg hn] at h; exact absurd h (by decide)
    | 1 =>
      refine (mem_vinB c j).trans ?_
      constructor
      · intro h; exact ⟨Finset.mem_univ _, if_neg h⟩
      · rintro ⟨-, h⟩ hn; rw [if_pos hn] at h; exact absurd h (by decide)
  refine (pts_by_key (ℓ := vinM.view.loc (c : Thread nD τ)) Finset.univ _ _ hm).trans ?_
  rw [bigSep_fin_two]; rfl

/-- A share of some chunk is its two halves. -/
theorem ck_halves (c : Dev nD) (p : Fin 3) (i : Fin 8) (f : S3x512x16384.Idx → Elt F .bf16) :
    ckPts c p i fullShare f ⊣⊢ iprop(ckPts c p i qKeep f ∗ ckPts c p i qLend f) :=
  pointsTo_share (PosShare.mem_left_op_right fullShare)

/-- The block's share is the one kept and the two its copies read. -/
theorem bl_thirds (c : Dev nD) (f : S512x16384.Idx → Elt F .bf16) :
    blPts c fullShare f ⊣⊢ iprop(blPts c qKeep f ∗ blPts c (qBlk 0) f ∗ blPts c (qBlk 1) f) :=
  (pointsTo_share (PosShare.mem_left_op_right fullShare)).trans
    ⟨sep_mono_right (pointsTo_share (PosShare.mem_left_op_right fullShare.right)).1,
     sep_mono_right (pointsTo_share (PosShare.mem_left_op_right fullShare.right)).2⟩

/-! ## Runs -/

/-- A program's run on chip `c`. -/
abbrev run (c : Dev nD) (p : Prg F) (Q : PUnit → sProp 𝕄) : sProp 𝕄 :=
  wp frame (wpE (defs₀ (F := F)) 𝒱₀ (c : Thread nD τ) none) Set.univ p Q

/-- Chip `c` owes `O`, whatever it has waited on. -/
def OW (c : Dev nD) (O : CellTallies nD τ sig Unit) : sProp 𝕄 := iprop(∃ W, owes (c : Thread nD τ) O W)

/-- A list of steps, each with its own part and a part handed on. -/
theorem run_list (c : Dev nD) (f : Fin 8 → Prg F) (S : List (Fin 8) → sProp 𝕄) (A Z : Fin 8 → sProp 𝕄)
    (h : ∀ i l Q, iprop(A i ∗ S (i :: l)) ⊢ iprop((iprop(Z i ∗ S l) -∗ Q ⟨⟩) -∗ run c (f i) Q)) :
    ∀ l Q, iprop(bigSepL l A ∗ S l) ⊢ iprop((iprop(bigSepL l Z ∗ S []) -∗ Q ⟨⟩) -∗ run c (runL f l) Q)
  | [], Q => by
    unfold run runL
    iintro ⟨HA, HS⟩ HQ
    iapply (Entails.of_eq (wp_ret _ _ _ _ _).symm)
    imodintro
    iapply HQ
    isplitl [HA]; · iexact HA
    iexact HS
  | i :: l, Q => by
    rw [bigSepL_cons', bigSepL_cons']
    show _ ⊢ iprop(_ -∗ wp _ _ _ (f i >>= fun _ => runL f l) Q)
    rw [wp_bind]
    iintro ⟨⟨HA, HAs⟩, HS⟩ HQ
    iapply (h i l _) $$ [HA HS]
    · isplitl [HA]; · iexact HA
      iexact HS
    iintro ⟨HZ, HS⟩
    iapply (run_list c f S A Z h l Q) $$ [HAs HS]
    · isplitl [HAs]; · iexact HAs
      iexact HS
    iintro ⟨HZs, HS⟩
    iapply HQ
    isplitl [HZ HZs]
    · isplitl [HZ]; · iexact HZ
      iexact HZs
    iexact HS

/-- What every row tile uses and gives back: the two tile buffers, their copies' semaphores at zero, nothing owed. -/
def TS (c : Dev nD) : sProp 𝕄 :=
  iprop(semVal ((c : Thread nD τ), .dma (inS 0)) 0 ∗ semVal ((c : Thread nD τ), .dma (inS 1)) 0 ∗ semVal ((c : Thread nD τ), .dma outS) 0
    ∗ (∃ f, viPts c f) ∗ (∃ f, voPts c f) ∗ OW c 0)

/-- What a copy of an output tile pays. -/
def NO : ℕ := voutM.view.dmaCredit
/-- An output tile counts something. -/
theorem NO_pos : 0 < NO := View.dmaCredit_pos _ (by decide)

set_option maxHeartbeats 1600000 in
/-- A row tile's run: from halves `a` and `b` of a tile `V` of the logits, the tile's softmax at `o`. -/
theorem tile_run (c : Dev nD) (a b : Memref sig .tc .hbm S64x16384 .bf16) (ha : a.view.WordExact) (hb : b.view.WordExact)
    (o : Memref sig .tc .hbm S64x32768 .f32) (ho : o.view.WordExact) (qa qb : PosShare TreeShare)
    (fa : Buf (Elt F) (a.view.loc (c : Thread nD τ))) (fb : Buf (Elt F) (b.view.loc (c : Thread nD τ)))
    (V : S64x32768.Idx → Elt F .bf16) (R : Buf (Elt F) (o.view.loc (c : Thread nD τ)))
    (hA : (vinAM c).view.read (Elt F) V = a.view.read (Elt F) fa) (hB : (vinBM c).view.read (Elt F) V = b.view.read (Elt F) fb)
    (hO : o.view.read (Elt F) R = softTile (F := F) V) (Q : PUnit → sProp 𝕄) :
    iprop((a.view.loc (c : Thread nD τ) ↦[a.view.set]{qa} fa) ∗ (b.view.loc (c : Thread nD τ) ↦[b.view.set]{qb} fb)
        ∗ (∃ fo, o.view.loc (c : Thread nD τ) ↦[o.view.set]{fullShare} fo) ∗ TS c)
      ⊢ iprop((iprop((a.view.loc (c : Thread nD τ) ↦[a.view.set]{qa} fa) ∗ (b.view.loc (c : Thread nD τ) ↦[b.view.set]{qb} fb)
        ∗ (o.view.loc (c : Thread nD τ) ↦[o.view.set]{fullShare} R) ∗ TS c) -∗ Q ⟨⟩) -∗ run c (tile c a b ha hb o ho) Q) := by
  have hz : (![0, 0] : Fin 2 → Nat) = fun _ => 0 := by funext x; fin_cases x <;> rfl
  have hw : ∀ g, (ReadAs.same (Val := Elt F)).apply (voutM.view.read (Elt F) ((voutM.access (Rect.unit (s := S64x32768) ![0, 0] S64x32768.size inb_S64x32768_S64x32768_0_0)).write (Elt F) g
      (softTile (F := F) ((vinM.access (Rect.unit (s := S64x32768) ![0, 0] S64x32768.size inb_S64x32768_S64x32768_0_0)).read (Elt F) V)) Finset.univ)) = softTile (F := F) V := by
    intro g
    have h1 : (vinM.access (Rect.unit (s := S64x32768) ![0, 0] S64x32768.size inb_S64x32768_S64x32768_0_0)).read (Elt F) V = V :=
      Memref.read_access_unit_zero (Elt F) cc0_scratch0 hz _ V
    rw [h1, ReadAs.apply_same]
    generalize softTile (F := F) V = T
    have h2 : (voutM.access (Rect.unit (s := S64x32768) ![0, 0] S64x32768.size inb_S64x32768_S64x32768_0_0)).write (Elt F) g T Finset.univ = T :=
      Memref.write_access_unit_zero_univ (Elt F) cc0_scratch1 hz _ g T
    rw [h2]; rfl
  unfold run tile TS OW
  iintro ⟨Ha, Hb, ⟨%fo, Ho⟩, Hs0, Hs1, Hso, ⟨%fi, Hvi⟩, ⟨%fv, Hvo⟩, ⟨%W, HO⟩⟩ HQ
  ihave Hvi2 := (Entails.of_eq (vin_halves c fi)) $$ Hvi
  icases Hvi2 with ⟨HvA, HvB⟩
  -- the two copies in
  iapply (Transfers.wp_dmaLocal EC 𝒱₀ (c : Thread nD τ) none () NC rfl NC_pos (Finset.Subset.refl _)) $$ [Ha HvA Hs0]
  · isplitl [Ha]; · iexact Ha
    isplitl [HvA]; · iexact HvA
    iexact Hs0
  iintro HF0
  iapply (Transfers.wp_dmaLocal EC 𝒱₀ (c : Thread nD τ) none () NC rfl NC_pos (Finset.Subset.refl _)) $$ [Hb HvB Hs1]
  · isplitl [Hb]; · iexact Hb
    isplitl [HvB]; · iexact HvB
    iexact Hs1
  iintro HF1
  -- and their waits
  iapply (Transfers.wp_waitLocal EC 𝒱₀ (c : Thread nD τ) none () rfl) $$ [HF0 HO]
  · isplitl [HF0]; · iexact HF0
    iexact HO
  iintro ⟨⟨HvA, Ha⟩, Hs0, HO⟩
  iapply (Transfers.wp_waitLocal EC 𝒱₀ (c : Thread nD τ) none () rfl) $$ [HF1 HO]
  · isplitl [HF1]; · iexact HF1
    iexact HO
  iintro ⟨⟨HvB, Hb⟩, Hs1, HO⟩
  -- the input tile holds the logits' tile
  ihave HvA2 := (Entails.of_eq (pointsTo_congr (write_eq_of_read (vinAM c).view _ V _ hA))) $$ HvA
  ihave HvB2 := (Entails.of_eq (pointsTo_congr (write_eq_of_read (vinBM c).view _ V _ hB))) $$ HvB
  ihave Hvi := (Entails.of_eq (vin_halves c V).symm) $$ [HvA2 HvB2]
  · isplitl [HvA2]; · iexact HvA2
    iexact HvB2
  iapply (wp_load_rect 𝒱₀ (c : Thread nD τ) none Set.univ (m := vinM) (S := Finset.univ) (Finset.subset_univ _)) $$ [Hvi]
  · iexact Hvi
  iintro Hvi
  iapply (wp_load_rect 𝒱₀ (c : Thread nD τ) none Set.univ (m := voutM) (S := Finset.univ) (Finset.subset_univ _)) $$ [Hvo]
  · iexact Hvo
  iintro Hvo
  iapply (wp_store 𝒱₀ (c : Thread nD τ) none Set.univ (m := voutM) (S := Finset.univ) (Finset.subset_univ _)) $$ [Hvo]
  · iexact Hvo
  iintro Hvo
  -- the copy out
  iapply (Transfers.wp_dmaLocal EC 𝒱₀ (c : Thread nD τ) none () NO rfl NO_pos (Finset.Subset.refl _)) $$ [Hvo Ho Hso]
  · isplitl [Hvo]
    · rw [show voutM.view.set = Finset.univ from View.set_whole _]; iexact Hvo
    isplitl [Ho]; · iexact Ho
    iexact Hso
  iintro HF
  iapply (Transfers.wp_waitLocal EC 𝒱₀ (c : Thread nD τ) none () rfl) $$ [HF HO]
  · isplitl [HF]; · iexact HF
    iexact HO
  iintro ⟨⟨Ho, Hvo⟩, Hso, HO⟩
  ihave Ho2 := (Entails.of_eq (pointsTo_congr (write_eq_of_read o.view _ R _ (hO.trans (hw fv).symm)))) $$ Ho
  iapply (Entails.of_eq (wp_ret _ _ _ _ _).symm)
  imodintro
  iapply HQ
  isplitl [Ha]; · iexact Ha
  isplitl [Hb]; · iexact Hb
  isplitl [Ho2]; · iexact Ho2
  isplitl [Hs0]; · iexact Hs0
  isplitl [Hs1]; · iexact Hs1
  isplitl [Hso]; · iexact Hso
  isplitl [Hvi]; · iexists _; iexact Hvi
  isplitl [Hvo]
  · iexists _
    rw [show voutM.view.set = Finset.univ from View.set_whole _]
    iexact Hvo
  iexists _; iexact HO

end Cert.KernelIdeal.Gen

end
-- ==== Proof.Run.lean ====
/-
  The whole run of a chip's core: the barrier, the copies of the blocks, the forwards, the row tiles, and the waits for
  the departures.
-/
module

public import proofs.«01_k».proof.Proof.Tile

@[expose] public section

set_option maxRecDepth 8192

noncomputable section

namespace Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : Blocks F) (κ : GSem nD τ sig → ℕ)

/-! ## One copy and one wait -/

/-- The `k`-th copy: it pays the departure with the source's share and the arrival with what it wrote. -/
theorem send_step {s : Shape} (c : Dev nD) (k : Fin 10) (src dst : Memref sig .tc .hbm s .bf16) (hs : src.view.WordExact) (hd : dst.view.WordExact)
    (q : PosShare TreeShare) (fs : Buf (Elt F) (src.view.loc (c : Thread nD τ))) (O : CellTallies nD τ sig Unit)
    (hN : dst.view.dmaCredit = credOf k)
    (hp₁ : iprop(src.view.loc (c : Thread nD τ) ↦[src.view.set]{q} fs) ⊢ sendPay B c k)
    (hp₂ : ∀ fd, iprop(dst.view.loc (dest k c : Thread nD τ) ↦[dst.view.set]{fullShare}
      (dst.view.write (Elt F) fd (src.view.read (Elt F) fs) Finset.univ)) ⊢ recvPay B (dest k c) k) (Q : PUnit → sProp 𝕄) :
    iprop(invs B κ ∗ opens (dest k c) ∗ (src.view.loc (c : Thread nD τ) ↦[src.view.set]{q} fs)
        ∗ (∃ fd, dst.view.loc (dest k c : Thread nD τ) ↦[dst.view.set]{fullShare} fd)
        ∗ sendRdy c k ∗ OW c (O + tallyAt (recvCell (dest k c) k) () (credOf k)))
      ⊢ iprop((iprop(cred (tallyAt (sendCell c k) () (credOf k)) ∗ atPos ER (sendCell c k) 0 ∅ 0 ∗ OW c O) -∗ Q ⟨⟩)
        -∗ run c (sendTo k (dest k c) src dst hs hd) Q) := by
  unfold run sendTo sendRdy payToks OW
  iintro ⟨#HI, #Hop, Hs, ⟨%fd, Hd⟩, ⟨Hat, #Hr, Ht1, Ht2⟩, ⟨%W, HO⟩⟩ HQ
  iapply (Rounds.wp_send_pointsTo 𝒱₀ ER (Rd B) (c : Thread nD τ) none (c' := (dest k c : Thread nD τ)) (src := src) (dst := dst)
      (sS := .dma (sendS k)) (sem := .dma (recvS k)) (q := q) (fs := fs) (κ₁ := κ (sendCell c k)) (κ₂ := κ (recvCell (dest k c) k))
      (r₁ := 0) (r₂ := 0) (d₁ := false) (d₂ := false) (fd := fd)
      (by rw [duties_send]; exact Finset.mem_singleton_self _) (by rw [duties_recv]; exact Finset.mem_singleton_self _)
      () () (credOf k) hN (amount_send B c k false) (amount_recv B (dest k c) k false) O rfl (W := W)
      (by rw [payload_send]; exact hp₁) (by rw [payload_recv]; exact hp₂ fd)) $$ [Hs Hd HO Ht1 Ht2]
  · isplitr; · iapply (inv_send B κ c k); iexact HI
    isplitr; · iapply (inv_recv B κ (dest k c) k); iexact HI
    isplitl [Hs]; · iexact Hs
    isplitl [Hd]; · iexact Hd
    isplitl [HO]; · iexact HO
    isplitl [Ht1]; · iexact Ht1
    isplitr; · iexact Hr
    isplitl [Ht2]; · iexact Ht2
    iapply (opens_at (dest k c) k); iexact Hop
  iintro ⟨Hc, HO⟩
  iapply (Entails.of_eq (wp_ret _ _ _ _ _).symm)
  imodintro
  iapply HQ
  isplitl [Hc]; · iexact Hc
  isplitl [Hat]; · iexact Hat
  iexists _; iexact HO

/-- A wait for a copy's bytes: what the cell's duty handed over comes with it. -/
theorem wait_step {s : Shape} (c : Dev nD) (sm : DmaSem sig) (N : ℕ) (R : sProp 𝕄) (O : CellTallies nD τ sig Unit)
    (src dst : Memref sig .tc .hbm s .bf16) (hs : src.view.WordExact) (hd : dst.view.WordExact) (hN : dst.view.dmaCredit = N)
    (hI : invs B κ ⊢ cellInv ER (Rd B) (κ ((c : Thread nD τ), .dma sm)) ((c : Thread nD τ), .dma sm))
    (hE : (Rd B).expect ((c : Thread nD τ), .dma sm) 0 = N)
    (hR : bigSep ((Rd B).duties ((c : Thread nD τ), .dma sm) 0 \ ∅) (fun d => (Rd B).payload ((c : Thread nD τ), .dma sm) 0 d) = R)
    (hM : (levAts L lv : sProp 𝕄) ⊢ MayWait (c : Thread nD τ) (.dma sm) () O) (Q : PUnit → sProp 𝕄) :
    iprop(invs B κ ∗ levAts L lv ∗ cred (tallyAt ((c : Thread nD τ), .dma sm) () N) ∗ atPos ER ((c : Thread nD τ), .dma sm) 0 ∅ 0 ∗ OW c O)
      ⊢ iprop((iprop(R ∗ atPos ER ((c : Thread nD τ), .dma sm) 1 ∅ 0 ∗ OW c O) -∗ Q ⟨⟩)
        -∗ run c (Prog.lift (.waitDma2 sm src dst hs hd)) Q) := by
  subst hN hR
  unfold run OW
  iintro ⟨#HI, #Hlev, Hc, Hat, ⟨%W, HO⟩⟩ HQ
  iapply (Rounds.wp_wait_rest_token 𝒱₀ ER (Rd B) (c : Thread nD τ) none (κ := κ ((c : Thread nD τ), .dma sm))
      (wpE_waitDma2_eq 𝒱₀ (c : Thread nD τ) none Set.univ) (Set.mem_univ _) () (O := O) (W := W) (R := 0) (m := 0) (T := ∅)
      ((Nat.zero_add _).trans hE.symm)) $$ [Hc HO Hat]
  · isplitr; · iapply hI; iexact HI
    isplitl [Hc]; · iexact Hc
    isplitl [HO]; · iexact HO
    isplitr; · iapply hM; iexact Hlev
    iexact Hat
  iintro ⟨HO, Hat, -, Hpay⟩
  iapply (Entails.of_eq (wp_ret _ _ _ _ _).symm)
  imodintro
  iapply HQ
  isplitl [Hpay]; · iexact Hpay
  isplitl [Hat]; · iexact Hat
  iexists _; iexact HO

/-- Owing nothing, a chip may wait on anything. -/
theorem mayWait_none (c : Dev nD) (sm : SemLoc sig) : (levAts L lv : sProp 𝕄) ⊢ MayWait (c : Thread nD τ) sm () 0 := by
  iintro -
  rw [MayWait_zero]
  iempintro

/-- The wait for the `k`-th arrival, at the copy's amount. -/
theorem recv_step {s : Shape} (c : Dev nD) (k : Fin 10) (O : CellTallies nD τ sig Unit)
    (src dst : Memref sig .tc .hbm s .bf16) (hs : src.view.WordExact) (hd : dst.view.WordExact) (hN : dst.view.dmaCredit = credOf k)
    (hM : (levAts L lv : sProp 𝕄) ⊢ MayWait (c : Thread nD τ) (.dma (recvS k)) () O) (Q : PUnit → sProp 𝕄) :
    iprop(invs B κ ∗ levAts L lv ∗ recvRdy c k ∗ OW c O)
      ⊢ iprop((iprop(recvPay B c k ∗ atPos ER (recvCell c k) 1 ∅ 0 ∗ OW c O) -∗ Q ⟨⟩)
        -∗ run c (Prog.lift (.waitDma2 (recvS k) src dst hs hd)) Q) := by
  refine BIBase.Entails.trans ?_ (wait_step B κ c (recvS k) (credOf k) _ O src dst hs hd hN (inv_recv B κ c k) (expect_recv B c k) (rest_recv B c k) hM Q)
  unfold recvRdy
  iintro ⟨HI, Hl, ⟨Hat, Hc⟩, HO⟩
  isplitl [HI]; · iexact HI
  isplitl [Hl]; · iexact Hl
  isplitl [Hc]; · iexact Hc
  isplitl [Hat]; · iexact Hat
  iexact HO

/-- A departure under way: its cell's position and the credit to wait with. -/
def sent (c : Dev nD) (k : Fin 10) : sProp 𝕄 := iprop(cred (tallyAt (sendCell c k) () (credOf k)) ∗ atPos ER (sendCell c k) 0 ∅ 0)

/-- The wait for the `k`-th departure. -/
theorem unsend_step {s : Shape} (c : Dev nD) (k : Fin 10)
    (src dst : Memref sig .tc .hbm s .bf16) (hs : src.view.WordExact) (hd : dst.view.WordExact) (hN : dst.view.dmaCredit = credOf k) (Q : PUnit → sProp 𝕄) :
    iprop(invs B κ ∗ levAts L lv ∗ sent c k ∗ OW c 0)
      ⊢ iprop((iprop(sendPay B c k ∗ atPos ER (sendCell c k) 1 ∅ 0 ∗ OW c 0) -∗ Q ⟨⟩)
        -∗ run c (Prog.lift (.waitDma2 (sendS k) src dst hs hd)) Q) := by
  refine BIBase.Entails.trans ?_ (wait_step B κ c (sendS k) (credOf k) _ 0 src dst hs hd hN (inv_send B κ c k) (expect_send B c k) (rest_send B c k) (mayWait_none c _) Q)
  unfold sent
  iintro ⟨HI, Hl, ⟨Hc, Hat⟩, HO⟩
  isplitl [HI]; · iexact HI
  isplitl [Hl]; · iexact Hl
  isplitl [Hc]; · iexact Hc
  isplitl [Hat]; · iexact Hat
  iexact HO

/-! ## The four loops -/

/-- A chunk's count is its copy's. -/
theorem NC_chunk (p : Fin 3) (i : Fin 8) : (chunkM p i).view.dmaCredit = credOf (up i) := (credOf_up i).symm

/-- What arrives at the chip reached by the `i`-th forward is what was sent. -/
theorem fwd_pay (c : Dev nD) (i : Fin 8) (fd) :
    iprop((chunkM 2 i).view.loc (dest (up i) c : Thread nD τ) ↦[(chunkM 2 i).view.set]{fullShare}
      ((chunkM 2 i).view.write (Elt F) fd ((chunkM 0 i).view.read (Elt F) (CC B c)) Finset.univ)) ⊢ recvPay B (dest (up i) c) (up i) := by
  rw [recvPay_up, dest_up]
  refine Entails.of_eq (pointsTo_congr (write_eq_of_read (chunkM 2 i).view fd (CC B (xN c)) _ ?_))
  rw [read_chunk, read_chunk]
  show cut (B (yN (xN (xN c)))) i = cut (B (yN c)) i
  rw [xN_xN]

/-- The forwards: each keeps half of its chunk's share and lends the other. -/
theorem fwds_run (c : Dev nD) (Q : PUnit → sProp 𝕄) :
    iprop((bigSepL eight fun i => iprop(ckPts c 0 i fullShare (CC B c) ∗ (∃ f, ckPts (xN c) 2 i fullShare f) ∗ sendRdy c (up i)))
        ∗ invs B κ ∗ opens (xN c) ∗ OW c (OF c eight))
      ⊢ iprop((iprop((bigSepL eight fun i => iprop(ckPts c 0 i qKeep (CC B c) ∗ sent c (up i))) ∗ invs B κ ∗ opens (xN c) ∗ OW c 0) -∗ Q ⟨⟩)
        -∗ run c (runL (fwd c) eight) Q) := by
  refine run_list c (fwd c) (fun l => iprop(invs B κ ∗ opens (xN c) ∗ OW c (OF c l))) _ _ (fun i l Q => ?_) eight Q
  iintro ⟨⟨Hc, Hd, Hr⟩, #HI, #Hop, HO⟩ HQ
  ihave Hc2 := (ck_halves c 0 i (CC B c)).1 $$ Hc
  icases Hc2 with ⟨Hk, Hl⟩
  have h := send_step B κ c (up i) (chunkM 0 i) (chunkM 2 i) (chunkW 0 i) (chunkW 2 i) qLend (CC B c) (OF c l) (NC_chunk 2 i)
    (Entails.of_eq (sendPay_up B c i).symm) (fwd_pay B c i) Q
  rw [dest_up, credOf_up] at h
  iapply h $$ [Hl Hd Hr HO]
  · isplitr; · iexact HI
    isplitr; · iexact Hop
    isplitl [Hl]; · iexact Hl
    isplitl [Hd]; · iexact Hd
    isplitl [Hr]; · iexact Hr
    iexact HO
  iintro ⟨Hcr, Hat, HO⟩
  iapply HQ
  isplitl [Hk Hcr Hat]
  · isplitl [Hk]; · iexact Hk
    unfold sent
    rw [credOf_up]
    isplitl [Hcr]; · iexact Hcr
    iexact Hat
  isplitr; · iexact HI
  isplitr; · iexact Hop
  iexact HO

/-- The row tiles of the chip's own rows. -/
theorem tilesA_run (c : Dev nD) (Q : PUnit → sProp 𝕄) :
    iprop((bigSepL eight fun i => iprop(rwPts c i qKeep (B c) ∗ ckPts c 0 i qKeep (CC B c) ∗ (∃ f, oaPts c i f))) ∗ TS c)
      ⊢ iprop((iprop((bigSepL eight fun i => iprop(rwPts c i qKeep (B c) ∗ ckPts c 0 i qKeep (CC B c) ∗ oaPts c i (OO B))) ∗ TS c) -∗ Q ⟨⟩)
        -∗ run c (runL (tileA c) eight) Q) := by
  refine run_list c (tileA c) (fun _ => TS c) _ _ (fun i l Q => ?_) eight Q
  iintro ⟨⟨Ha, Hb, Ho⟩, HT⟩ HQ
  iapply (tile_run c (rowsM i) (chunkM 0 i) (rowsW i) (chunkW 0 i) (outAM c i) (View.wordExact_bits rfl) qKeep qKeep (B c) (CC B c)
    (VT B (nOf c i)) (OO B) (by rw [read_vinA, dev_self]; exact (read_rows (B c) i).symm) (by rw [read_vinB, dev_y, read_chunk]; rfl) (read_outA B c i) Q) $$ [Ha Hb Ho HT]
  · isplitl [Ha]; · iexact Ha
    isplitl [Hb]; · iexact Hb
    isplitl [Ho]; · iexact Ho
    iexact HT
  iintro ⟨Ha, Hb, Ho, HT⟩
  iapply HQ
  isplitl [Ha Hb Ho]
  · isplitl [Ha]; · iexact Ha
    isplitl [Hb]; · iexact Hb
    iexact Ho
  iexact HT

/-- The row tiles of the other rows: each waits for its forwarded chunk first. -/
theorem tilesB_run (c : Dev nD) (Q : PUnit → sProp 𝕄) :
    iprop((bigSepL eight fun i => iprop(ckPts c 1 i fullShare (CC B c) ∗ recvRdy c (up i) ∗ (∃ f, obPts c i f))) ∗ invs B κ ∗ levAts L lv ∗ TS c)
      ⊢ iprop((iprop((bigSepL eight fun i => iprop(ckPts c 1 i fullShare (CC B c) ∗ ckPts c 2 i fullShare (CC B c) ∗ atPos ER (recvCell c (up i)) 1 ∅ 0 ∗ obPts c i (OO B)))
          ∗ invs B κ ∗ levAts L lv ∗ TS c) -∗ Q ⟨⟩)
        -∗ run c (runL (tileB c) eight) Q) := by
  refine run_list c (tileB c) (fun _ => iprop(invs B κ ∗ levAts L lv ∗ TS c)) _ _ (fun i l Q => ?_) eight Q
  unfold TS
  iintro ⟨⟨Ha, Hr, Ho⟩, #HI, #Hlev, Hs0, Hs1, Hso, Hvi, Hvo, HO⟩ HQ
  unfold run tileB
  rw [wp_bind]
  iapply (recv_step B κ c (up i) 0 (chunkM 0 i) (chunkM 2 i) (chunkW 0 i) (chunkW 2 i) (NC_chunk 2 i) (mayWait_none c _) _) $$ [Hr HO]
  · isplitr; · iexact HI
    isplitr; · iexact Hlev
    isplitl [Hr]; · iexact Hr
    iexact HO
  iintro ⟨Hb, Hat, HO⟩
  ihave Hb := (Entails.of_eq (recvPay_up B c i)) $$ Hb
  iapply (tile_run c (chunkM 1 i) (chunkM 2 i) (chunkW 1 i) (chunkW 2 i) (outBM c i) (View.wordExact_bits rfl) fullShare fullShare (CC B c) (CC B c)
    (VT B (nOf (xN c) i)) (OO B) (by rw [read_vinA, dev_x, read_chunk]; rfl) (by rw [read_vinB, dev_xy, read_chunk]; rfl) (read_outB B c i) Q) $$ [Ha Hb Ho Hs0 Hs1 Hso Hvi Hvo HO]
  · isplitl [Ha]; · iexact Ha
    isplitl [Hb]; · iexact Hb
    isplitl [Ho]; · iexact Ho
    unfold TS
    isplitl [Hs0]; · iexact Hs0
    isplitl [Hs1]; · iexact Hs1
    isplitl [Hso]; · iexact Hso
    isplitl [Hvi]; · iexact Hvi
    isplitl [Hvo]; · iexact Hvo
    iexact HO
  iintro ⟨Ha, Hb, Ho, HT⟩
  iapply HQ
  isplitl [Ha Hb Hat Ho]
  · isplitl [Ha]; · iexact Ha
    isplitl [Hb]; · iexact Hb
    isplitl [Hat]; · iexact Hat
    iexact Ho
  isplitr; · iexact HI
  isplitr; · iexact Hlev
  unfold TS
  iexact HT

/-- The waits for the forwards' departures: the lent halves come back. -/
theorem unfwds_run (c : Dev nD) (Q : PUnit → sProp 𝕄) :
    iprop((bigSepL eight fun i => sent c (up i)) ∗ invs B κ ∗ levAts L lv ∗ OW c 0)
      ⊢ iprop((iprop((bigSepL eight fun i => iprop(ckPts c 0 i qLend (CC B c) ∗ atPos ER (sendCell c (up i)) 1 ∅ 0)) ∗ invs B κ ∗ levAts L lv ∗ OW c 0) -∗ Q ⟨⟩)
        -∗ run c (runL unfwd eight) Q) := by
  refine run_list c unfwd (fun _ => iprop(invs B κ ∗ levAts L lv ∗ OW c 0)) _ _ (fun i l Q => ?_) eight Q
  iintro ⟨Hs, #HI, #Hlev, HO⟩ HQ
  iapply (unsend_step B κ c (up i) (chunkM 2 i) (chunkM 0 i) (chunkW 2 i) (chunkW 0 i) (NC_chunk 0 i) Q) $$ [Hs HO]
  · isplitr; · iexact HI
    isplitr; · iexact Hlev
    isplitl [Hs]; · iexact Hs
    iexact HO
  iintro ⟨Hb, Hat, HO⟩
  ihave Hb := (Entails.of_eq (sendPay_up B c i)) $$ Hb
  iapply HQ
  isplitl [Hb Hat]
  · isplitl [Hb]; · iexact Hb
    iexact Hat
  isplitr; · iexact HI
  isplitr; · iexact Hlev
  iexact HO

end Cert.KernelIdeal.Gen

end
-- ==== Proof.Body.lean ====
/-
  The body's run on a chip: from what the launch hands it to the result, every semaphore back at zero.
-/
module

public import proofs.«01_k».proof.Proof.Run
public import Idealize.ShloMosaic.Lib.Rounds.Family

@[expose] public section

set_option maxRecDepth 8192

noncomputable section

namespace Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : Blocks F) (κ : GSem nD τ sig → ℕ)

/-! ## Lists and families -/

/-- A family over the eight chunks, as a list. -/
theorem eight_eq (Φ : Fin 8 → sProp 𝕄) : bigSep Finset.univ Φ = bigSepL eight Φ :=
  bigSep_univ_eq_bigSepL eight (by decide) (by decide) Φ

/-- A family over the ten copies: the two whole blocks, then the eight forwards. -/
theorem ten_eq (Φ : Fin 10 → sProp 𝕄) : bigSep Finset.univ Φ = iprop(Φ 0 ∗ Φ 1 ∗ bigSepL eight fun i => Φ (up i)) := by
  rw [bigSep_univ_eq_bigSepL (0 :: 1 :: eight.map up) (by decide) (by decide) Φ, bigSepL_cons', bigSepL_cons', bigSepL_map]

/-- Eight pairs are two families of eight. -/
theorem eight_two (Φ Ψ : Fin 8 → sProp 𝕄) : bigSepL eight (fun i => iprop(Φ i ∗ Ψ i)) = iprop(bigSepL eight Φ ∗ bigSepL eight Ψ) := by
  rw [← eight_eq, ← eight_eq, ← eight_eq, bigSep_sep']

/-- Eight triples are three families of eight. -/
theorem eight_three (Φ Ψ Χ : Fin 8 → sProp 𝕄) :
    bigSepL eight (fun i => iprop(Φ i ∗ Ψ i ∗ Χ i)) = iprop(bigSepL eight Φ ∗ bigSepL eight Ψ ∗ bigSepL eight Χ) := by
  rw [eight_two, eight_two]

/-- Eight quadruples are four families of eight. -/
theorem eight_four (Φ Ψ Χ Ω : Fin 8 → sProp 𝕄) :
    bigSepL eight (fun i => iprop(Φ i ∗ Ψ i ∗ Χ i ∗ Ω i)) = iprop(bigSepL eight Φ ∗ bigSepL eight Ψ ∗ bigSepL eight Χ ∗ bigSepL eight Ω) := by
  rw [eight_two, eight_three]

/-- A family over the three planes, written out. -/
theorem three_eq (Φ : Fin 3 → sProp 𝕄) : bigSep Finset.univ Φ = iprop(Φ 0 ∗ Φ 1 ∗ Φ 2) := by
  rw [bigSep_univ_eq_bigSepL [0, 1, 2] (by decide) (by decide) Φ, bigSepL_cons', bigSepL_cons']; rfl

/-- Some contents of a plane are some contents of each chunk. -/
theorem plane_chunks_any (c : Dev nD) (p : Fin 3) :
    iprop(∃ f, plPts (F := F) c p f) ⊢ bigSepL eight fun i => iprop(∃ f, ckPts (F := F) c p i fullShare f) := by
  iintro ⟨%f, H⟩
  iapply (show plPts c p f ⊢ bigSepL eight fun i => iprop(∃ f, ckPts c p i fullShare f) from by
    rw [plane_chunks, eight_eq]
    exact bigSepL_mono fun i _ => by iintro H; iexists f; iexact H)
  iexact H

/-- Some contents of the result are some contents of each row tile. -/
theorem out_tiles_any (c : Dev nD) : iprop(∃ f, otPts (F := F) c f)
    ⊢ iprop((bigSepL eight fun i => iprop(∃ f, oaPts (F := F) c i f)) ∗ bigSepL eight fun i => iprop(∃ f, obPts (F := F) c i f)) := by
  iintro ⟨%f, H⟩
  iapply (show otPts c f ⊢ iprop((bigSepL eight fun i => iprop(∃ f, oaPts c i f)) ∗ bigSepL eight fun i => iprop(∃ f, obPts c i f)) from by
    rw [out_tiles, eight_eq, eight_eq]
    exact BIClass.sep_mono (bigSepL_mono fun i _ => by iintro H; iexists f; iexact H) (bigSepL_mono fun i _ => by iintro H; iexists f; iexact H))
  iexact H

/-! ## Opening and closing the cells -/

/-- A cell whose one round is over gives back its counter, at zero. -/
theorem close_one (g : GSem nD τ sig) (n : ℕ) : iprop(cellInv ER (Rd B) n g ∗ atPos ER g 1 ∅ 0) ⊢ (|={Set.univ}=> semVal g 0 : sProp 𝕄) :=
  Rounds.cell_close ER (Rd B) (Set.mem_univ n) id (duties_later B g)

/-- A family of cells closed at once. -/
theorem close_ten (g : Fin 10 → GSem nD τ sig) (hg : ∀ k, invs B κ ⊢ cellInv ER (Rd B) (κ (g k)) (g k)) :
    iprop(invs B κ ∗ bigSep Finset.univ fun k => atPos ER (g k) 1 ∅ 0) ⊢ (|={Set.univ}=> bigSep Finset.univ fun k => semVal (g k) 0 : sProp 𝕄) :=
  (bigSep_with_persistent fun k _ => (sep_mono_left (hg k)).trans (close_one B (g k) (κ (g k)))).trans (bigSep_fupd _ _)

/-! ## The barrier -/

/-- One step of a program, then the rest. -/
theorem run_bind (c : Dev nD) (p : Prg F) (k : PUnit → Prg F) (Q : PUnit → sProp 𝕄) :
    run c p (fun x => run c (k x) Q) ⊢ run c (p >>= k) Q := Entails.of_eq (wp_bind _ _ _ _ _ _).symm

/-- A unit on a neighbour's barrier. -/
theorem signal_step (c e : Dev nD) (d : Bool) (hd : d ∈ (Rd B).duties (barCell e) 0) (O : CellTallies nD τ sig Unit) (Q : PUnit → sProp 𝕄) :
    iprop(invs B κ ∗ OW c (O + tallyAt (barCell e) () 1) ∗ dutyTok ER (barCell e) 0 d ∗ (Rd B).payload (barCell e) 0 d ∗ reached ER (barCell e) 0)
      ⊢ iprop((OW c O -∗ Q ⟨⟩) -∗ run c (semSignalWord e barS 1#32) Q) := by
  unfold run OW
  iintro ⟨#HI, ⟨%W, HO⟩, Ht, Hp, #Hr⟩ HQ
  iapply (Rounds.wp_signal 𝒱₀ ER (Rd B) (c : Thread nD τ) none (dst := (e : Thread nD τ)) (sem := barS) (r := 0) (d := d) (κ := κ (barCell e))
      hd (amount_bar B e d) () O rfl) $$ [HO Ht Hp]
  · isplitr; · iapply (inv_bar B κ e); iexact HI
    isplitl [HO]; · iexact HO
    isplitl [Ht]; · iexact Ht
    isplitl [Hp]; · iexact Hp
    iexact Hr
  iintro HO
  iapply (Entails.of_eq (wp_ret _ _ _ _ _).symm)
  imodintro
  iapply HQ
  iexists _; iexact HO

/-- The wait for both units: the neighbours' planes come with it. -/
theorem barrier_step (c : Dev nD) (Q : PUnit → sProp 𝕄) :
    iprop(invs B κ ∗ levAts L lv ∗ cred (tallyAt (barCell c) () 2) ∗ atPos ER (barCell c) 0 ∅ 0 ∗ OW c (OR c))
      ⊢ iprop((iprop(barPayY (yN c) ∗ barPayX (xN c) ∗ atPos ER (barCell c) 1 ∅ 0 ∗ OW c (OR c)) -∗ Q ⟨⟩)
        -∗ run c (semWaitWord barS 2#32) Q) := by
  unfold run OW
  iintro ⟨#HI, #Hlev, Hc, Hat, ⟨%W, HO⟩⟩ HQ
  iapply (Rounds.wp_wait_rest_token 𝒱₀ ER (Rd B) (c : Thread nD τ) none (κ := κ (barCell c))
      (wpE_semWait_eq 𝒱₀ (c : Thread nD τ) none Set.univ) (Set.mem_univ _) () (O := OR c) (W := W) (R := 0) (m := 0) (T := ∅)
      ((Nat.zero_add 2).trans (expect_bar B c).symm)) $$ [Hc HO Hat]
  · isplitr; · iapply (inv_bar B κ c); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar B c)) $$ Hpay
  icases Hp with ⟨Hy, Hx⟩
  iapply (Entails.of_eq (wp_ret _ _ _ _ _).symm)
  imodintro
  iapply HQ
  isplitl [Hy]; · iexact Hy
  isplitl [Hx]; · iexact Hx
  isplitl [Hat]; · iexact Hat
  iexists _; iexact HO

/-! ## The two copies of the chip's own block -/

/-- What an arrival hands over, when the copy is a whole block, is a plane of the receiver. -/
theorem own_pay (c : Dev nD) (k : Fin 10) (p : Fin 3) (hr : recvPay B (dest k c) k = plPts (dest k c) p (CC B (dest k c)))
    (hs : srcOf p (dest k c) = c) (fd) :
    iprop((planeM p).view.loc (dest k c : Thread nD τ) ↦[(planeM p).view.set]{fullShare}
      ((planeM p).view.write (Elt F) fd (blkM.view.read (Elt F) (B c)) Finset.univ)) ⊢ recvPay B (dest k c) k := by
  rw [hr]
  refine Entails.of_eq (pointsTo_congr (write_eq_of_read (planeM p).view fd (CC B (dest k c)) _ ?_))
  rw [read_plane, hs]
  rfl

/-- A copy of the chip's own block to plane `p` of a neighbour. -/
theorem own_step (c : Dev nD) (k : Fin 10) (p : Fin 3) (hk : k.val < 2) (hr : recvPay B (dest k c) k = plPts (dest k c) p (CC B (dest k c)))
    (hs : srcOf p (dest k c) = c) (O : CellTallies nD τ sig Unit) (Q : PUnit → sProp 𝕄) :
    iprop(invs B κ ∗ opens (dest k c) ∗ blPts c (qBlk k) (B c) ∗ (∃ f, plPts (dest k c) p f) ∗ sendRdy c k
        ∗ OW c (O + tallyAt (recvCell (dest k c) k) () NB))
      ⊢ iprop((iprop(sent c k ∗ OW c O) -∗ Q ⟨⟩) -∗ run c (sendTo k (dest k c) blkM (planeM p) blkW (planeW p)) Q) := by
  have hc : credOf k = NB := if_pos hk
  have h := send_step B κ c k blkM (planeM p) blkW (planeW p) (qBlk k) (B c) O hc.symm
    (Entails.of_eq (show blPts c (qBlk k) (B c) = sendPay B c k from (if_pos hk).symm)) (own_pay B c k p hr hs) Q
  unfold sent
  iintro ⟨HI, Hop, Hb, Hd, Hr, HO⟩ HQ
  rw [← hc]
  iapply h $$ [HI Hop Hb Hd Hr HO]
  · isplitl [HI]; · iexact HI
    isplitl [Hop]; · iexact Hop
    isplitl [Hb]; · iexact Hb
    isplitl [Hd]; · iexact Hd
    isplitl [Hr]; · iexact Hr
    iexact HO
  iintro ⟨Hc, Hat, HO⟩
  iapply HQ
  isplitl [Hc Hat]
  · isplitl [Hc]; · iexact Hc
    iexact Hat
  iexact HO

/-! ## The body -/

/-- What the body runs from. -/
def bodyPre (c : Dev nD) : sProp 𝕄 :=
  iprop(opened B κ c ∗ levAts L lv ∗ blPts c fullShare (B c) ∗ (∃ f, cmPts (F := F) c f) ∗ (∃ f, otPts (F := F) c f)
    ∗ semVal ((c : Thread nD τ), .dma (inS 0)) 0 ∗ semVal ((c : Thread nD τ), .dma (inS 1)) 0 ∗ semVal ((c : Thread nD τ), .dma outS) 0
    ∗ (∃ f, viPts (F := F) c f) ∗ (∃ f, voPts (F := F) c f) ∗ OW c (O₀ c))

/-- What it ends with: the result, the exchange buffer at what arrived, its block as it was, every semaphore at zero. -/
def bodyPost (c : Dev nD) : sProp 𝕄 :=
  iprop(semVal (barCell c) 0 ∗ (bigSep Finset.univ fun k : Fin 10 => semVal (sendCell c k) 0) ∗ (bigSep Finset.univ fun k : Fin 10 => semVal (recvCell c k) 0)
    ∗ blPts c fullShare (B c) ∗ cmPts c (CC B c) ∗ otPts c (OO B) ∗ TS c)

set_option maxHeartbeats 4000000 in
/-- The whole body on one chip: from the chip's share of the protocol, its buffers and its counters, it runs, and ends with
    the result assembled and every counter at zero. -/
theorem body_run (c : Dev nD) (Q : PUnit → sProp 𝕄) :
    iprop(bodyPre B κ c ∗ (bodyPost B c -∗ Q ⟨⟩)) ⊢ run c (body (F := F)) Q := by
  have e0 : dest 0 c = yN c := rfl
  have e1 : dest 1 c = xN c := rfl
  have hin0 : dest 0 (yN c) = c := dest_dest 0 c
  unfold bodyPre opened bodyPost
  iintro ⟨⟨⟨#HI, #Hop, #Hry, #Hrx, Hatb, Hcb, Hty, Htx, Hsr, Hrr⟩, #Hlev, Hbl, Hcm, Hot, Hs0, Hs1, Hso, Hvi, Hvo, HO⟩, HQ⟩
  unfold run body
  iapply (Entails.of_eq (wp_deviceId _ _ _ _).symm)
  -- the exchange buffer's planes, the result's row tiles, the copies' ghost state, one by one
  icases Hcm with ⟨%fc, Hcm⟩
  ihave Hpl := (Entails.of_eq ((comm_planes c fc).trans (three_eq _))) $$ Hcm
  icases Hpl with ⟨Hp0, Hp1, Hp2⟩
  ihave Hot2 := (out_tiles_any c) $$ Hot
  icases Hot2 with ⟨Hoa, Hob⟩
  ihave Hsr2 := (Entails.of_eq (ten_eq _)) $$ Hsr
  icases Hsr2 with ⟨Hsr0, Hsr1, Hsr⟩
  ihave Hrr2 := (Entails.of_eq (ten_eq _)) $$ Hrr
  icases Hrr2 with ⟨Hrr0, Hrr1, Hrr⟩
  ihave Hbl3 := (bl_thirds c (B c)).1 $$ Hbl
  icases Hbl3 with ⟨Hbk, Hb0, Hb1⟩
  -- the two units: each hands over the planes its neighbour writes
  iapply (run_bind c _ _ Q)
  iapply (signal_step B κ c (yN c) false (by rw [duties_bar]; decide) (OR c + tallyAt (barCell (xN c)) () 1) _) $$ [HO Hty Hp0]
  · isplitr; · iexact HI
    isplitl [HO]; · iexact HO
    isplitl [Hty]; · iexact Hty
    isplitl [Hp0]
    · iapply (Entails.of_eq (show barPayY c = (Rd B).payload (barCell (yN c)) 0 false from by rw [payload_barY, yN_yN]))
      unfold barPayY
      isplitl [Hp0]; · iexists fc; iexact Hp0
      iexact Hop
    iexact Hry
  iintro HO
  iapply (run_bind c _ _ Q)
  iapply (signal_step B κ c (xN c) true (by rw [duties_bar]; decide) (OR c) _) $$ [HO Htx Hp1 Hp2]
  · isplitr; · iexact HI
    isplitl [HO]; · iexact HO
    isplitl [Htx]; · iexact Htx
    isplitl [Hp1 Hp2]
    · iapply (Entails.of_eq (show barPayX c = (Rd B).payload (barCell (xN c)) 0 true from by rw [payload_barX, xN_xN]))
      unfold barPayX
      isplitl [Hp1]; · iexists fc; iexact Hp1
      isplitl [Hp2]; · iexists fc; iexact Hp2
      iexact Hop
    iexact Hrx
  iintro HO
  -- the wait for both
  iapply (run_bind c _ _ Q)
  iapply (barrier_step B κ c _) $$ [Hcb Hatb HO]
  · isplitr; · iexact HI
    isplitr; · iexact Hlev
    isplitl [Hcb]; · iexact Hcb
    isplitl [Hatb]; · iexact Hatb
    iexact HO
  unfold barPayY barPayX
  iintro ⟨⟨Hny, #Hoy⟩, ⟨Hnx1, Hnx2, #Hox⟩, Hatb, HO⟩
  -- the block to both neighbours
  iapply (run_bind c _ _ Q)
  iapply (own_step B κ c 0 0 (by decide) rfl (yN_yN c) (OF c eight + tallyAt (recvCell (xN c) 1) () NB) _) $$ [Hb0 Hny Hsr0 HO]
  · isplitr; · iexact HI
    isplitr; · iexact Hoy
    isplitl [Hb0]; · iexact Hb0
    isplitl [Hny]; · iexact Hny
    isplitl [Hsr0]; · iexact Hsr0
    iexact HO
  iintro ⟨Hst0, HO⟩
  iapply (run_bind c _ _ Q)
  iapply (own_step B κ c 1 1 (by decide) rfl (xN_xN c) (OF c eight) _) $$ [Hb1 Hnx1 Hsr1 HO]
  · isplitr; · iexact HI
    isplitr; · iexact Hox
    isplitl [Hb1]; · iexact Hb1
    isplitl [Hnx1]; · iexact Hnx1
    isplitl [Hsr1]; · iexact Hsr1
    iexact HO
  iintro ⟨Hst1, HO⟩
  -- plane 0 arrives
  iapply (run_bind c _ _ Q)
  iapply (recv_step B κ c 0 (OF c eight) blkM (planeM 0) blkW (planeW 0) rfl (mayWait_recv0 c) _) $$ [Hrr0 HO]
  · isplitr; · iexact HI
    isplitr; · iexact Hlev
    isplitl [Hrr0]; · iexact Hrr0
    iexact HO
  iintro ⟨Hp0, Har0, HO⟩
  ihave Hp0 := (Entails.of_eq ((recvPay_0 B c).trans ((plane_chunks c 0 (CC B c)).trans (eight_eq _)))) $$ Hp0
  ihave Hd2 := (plane_chunks_any (xN c) 2) $$ Hnx2
  -- the forwards
  iapply (run_bind c _ _ Q)
  iapply (fwds_run B κ c _) $$ [Hp0 Hd2 Hsr HO]
  · isplitl [Hp0 Hd2 Hsr]
    · iapply (Entails.of_eq (eight_three _ _ _).symm)
      isplitl [Hp0]; · iexact Hp0
      isplitl [Hd2]; · iexact Hd2
      iexact Hsr
    isplitr; · iexact HI
    isplitr; · iexact Hox
    iexact HO
  iintro ⟨Hl, -, -, HO⟩
  ihave Hl2 := (Entails.of_eq (eight_two _ _)) $$ Hl
  icases Hl2 with ⟨Hck, Hst⟩
  -- the chip's own rows
  ihave Hrw := (Entails.of_eq ((blk_rows c qKeep (B c)).trans (eight_eq _))) $$ Hbk
  iapply (run_bind c _ _ Q)
  iapply (tilesA_run B c _) $$ [Hrw Hck Hoa Hs0 Hs1 Hso Hvi Hvo HO]
  · isplitl [Hrw Hck Hoa]
    · iapply (Entails.of_eq (eight_three _ _ _).symm)
      isplitl [Hrw]; · iexact Hrw
      isplitl [Hck]; · iexact Hck
      iexact Hoa
    unfold TS
    isplitl [Hs0]; · iexact Hs0
    isplitl [Hs1]; · iexact Hs1
    isplitl [Hso]; · iexact Hso
    isplitl [Hvi]; · iexact Hvi
    isplitl [Hvo]; · iexact Hvo
    iexact HO
  iintro ⟨Hl, HT⟩
  ihave Hl2 := (Entails.of_eq (eight_three _ _ _)) $$ Hl
  icases Hl2 with ⟨Hrw, Hck, Hoa⟩
  -- plane 1 arrives
  unfold TS
  icases HT with ⟨Hs0, Hs1, Hso, Hvi, Hvo, HO⟩
  iapply (run_bind c _ _ Q)
  iapply (recv_step B κ c 1 0 blkM (planeM 1) blkW (planeW 1) rfl (mayWait_none c _) _) $$ [Hrr1 HO]
  · isplitr; · iexact HI
    isplitr; · iexact Hlev
    isplitl [Hrr1]; · iexact Hrr1
    iexact HO
  iintro ⟨Hp1, Har1, HO⟩
  ihave Hp1 := (Entails.of_eq ((recvPay_1 B c).trans ((plane_chunks c 1 (CC B c)).trans (eight_eq _)))) $$ Hp1
  -- the other rows
  iapply (run_bind c _ _ Q)
  iapply (tilesB_run B κ c _) $$ [Hp1 Hrr Hob Hs0 Hs1 Hso Hvi Hvo HO]
  · isplitl [Hp1 Hrr Hob]
    · iapply (Entails.of_eq (eight_three _ _ _).symm)
      isplitl [Hp1]; · iexact Hp1
      isplitl [Hrr]; · iexact Hrr
      iexact Hob
    isplitr; · iexact HI
    isplitr; · iexact Hlev
    unfold TS
    isplitl [Hs0]; · iexact Hs0
    isplitl [Hs1]; · iexact Hs1
    isplitl [Hso]; · iexact Hso
    isplitl [Hvi]; · iexact Hvi
    isplitl [Hvo]; · iexact Hvo
    iexact HO
  iintro ⟨Hl, -, -, HT⟩
  ihave Hl2 := (Entails.of_eq (eight_four _ _ _ _)) $$ Hl
  icases Hl2 with ⟨Hp1, Hp2, Har, Hob⟩
  -- the departures
  unfold TS
  icases HT with ⟨Hs0, Hs1, Hso, Hvi, Hvo, HO⟩
  iapply (run_bind c _ _ Q)
  iapply (unsend_step B κ c 0 (planeM 0) blkM (planeW 0) blkW rfl _) $$ [Hst0 HO]
  · isplitr; · iexact HI
    isplitr; · iexact Hlev
    isplitl [Hst0]; · iexact Hst0
    iexact HO
  iintro ⟨Hb0, Has0, HO⟩
  iapply (run_bind c _ _ Q)
  iapply (unsend_step B κ c 1 (planeM 1) blkM (planeW 1) blkW rfl _) $$ [Hst1 HO]
  · isplitr; · iexact HI
    isplitr; · iexact Hlev
    isplitl [Hst1]; · iexact Hst1
    iexact HO
  iintro ⟨Hb1, Has1, HO⟩
  iapply (wp_fupd _ _ _ _ _)
  iapply (unfwds_run B κ c _) $$ [Hst HO]
  · isplitl [Hst]; · iexact Hst
    isplitr; · iexact HI
    isplitr; · iexact Hlev
    iexact HO
  iintro ⟨Hl, -, -, HO⟩
  ihave Hl2 := (Entails.of_eq (eight_two _ _)) $$ Hl
  icases Hl2 with ⟨Hcl, Has⟩
  -- every cell closed, its counter back at zero
  imod (close_one B (barCell c) (κ (barCell c))) $$ [Hatb] with Hvb
  · isplitr; · iapply (inv_bar B κ c); iexact HI
    iexact Hatb
  imod (close_ten B κ (fun k => sendCell c k) (inv_send B κ c)) $$ [Has0 Has1 Has] with Hvs
  · isplitr; · iexact HI
    iapply (Entails.of_eq (ten_eq _).symm)
    isplitl [Has0]; · iexact Has0
    isplitl [Has1]; · iexact Has1
    iexact Has
  imod (close_ten B κ (fun k => recvCell c k) (inv_recv B κ c)) $$ [Har0 Har1 Har] with Hvr
  · isplitr; · iexact HI
    iapply (Entails.of_eq (ten_eq _).symm)
    isplitl [Har0]; · iexact Har0
    isplitl [Har1]; · iexact Har1
    iexact Har
  imodintro
  iapply HQ
  isplitl [Hvb]; · iexact Hvb
  isplitl [Hvs]; · iexact Hvs
  isplitl [Hvr]; · iexact Hvr
  isplitl [Hrw Hb0 Hb1]
  · iapply (bl_thirds c (B c)).2
    isplitl [Hrw]
    · iapply (Entails.of_eq ((blk_rows c qKeep (B c)).trans (eight_eq _)).symm); iexact Hrw
    isplitl [Hb0]; · iapply (Entails.of_eq (sendPay_0 B c)); iexact Hb0
    iapply (Entails.of_eq (sendPay_1 B c)); iexact Hb1
  isplitl [Hck Hcl Hp1 Hp2]
  · iapply (Entails.of_eq ((comm_planes c (CC B c)).trans (three_eq _)).symm)
    isplitl [Hck Hcl]
    · iapply (Entails.of_eq ((plane_chunks c 0 (CC B c)).trans (eight_eq _)).symm)
      iapply (bigSepL_mono fun i _ => (ck_halves c 0 i (CC B c)).2)
      iapply (Entails.of_eq (eight_two _ _).symm)
      isplitl [Hck]; · iexact Hck
      iexact Hcl
    isplitl [Hp1]
    · iapply (Entails.of_eq ((plane_chunks c 1 (CC B c)).trans (eight_eq _)).symm); iexact Hp1
    iapply (Entails.of_eq ((plane_chunks c 2 (CC B c)).trans (eight_eq _)).symm); iexact Hp2
  isplitl [Hoa Hob]
  · iapply (Entails.of_eq (out_tiles c (OO B)).symm)
    isplitl [Hoa]
    · iapply (Entails.of_eq (eight_eq _).symm); iexact Hoa
    iapply (Entails.of_eq (eight_eq _).symm); iexact Hob
  isplitl [Hs0]; · iexact Hs0
  isplitl [Hs1]; · iexact Hs1
  isplitl [Hso]; · iexact Hso
  isplitl [Hvi]; · iexact Hvi
  isplitl [Hvo]; · iexact Hvo
  iexact HO

end Cert.KernelIdeal.Gen

end
-- ==== Proof.Ghost.lean ====
/-
  The protocol's launch: the tokens and the credit each chip starts with, and the opening of its
  departures' and arrivals' cells when the region is entered.
-/
module

public import proofs.«01_k».proof.Proof.Body
public import Idealize.ShloMosaic.Lib.Pipeline.Launch

@[expose] public section

set_option maxRecDepth 8192

noncomputable section

namespace Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : Blocks F)

/-- Two families over one index set, as one family of pairs, -/
theorem join_family {K : Type} [Fintype K] {Φ Ψ : K → sProp 𝕄} :
    iprop(bigSep Finset.univ Φ ∗ bigSep Finset.univ Ψ) ⊢ bigSep Finset.univ (fun k => iprop(Φ k ∗ Ψ k)) :=
  Entails.of_eq (bigSep_sep' _ _ _).symm
/-- and back. -/
theorem split_family {K : Type} [Fintype K] {Φ Ψ : K → sProp 𝕄} :
    bigSep Finset.univ (fun k => iprop(Φ k ∗ Ψ k)) ⊢ iprop(bigSep Finset.univ Φ ∗ bigSep Finset.univ Ψ) :=
  Entails.of_eq (bigSep_sep' _ _ _)

/-! ## The neighbours as rearrangements -/

/-- The step along `y`, as a permutation of the chips. -/
def yE : Dev nD ≃ Dev nD := ⟨yN, yN, yN_yN, yN_yN⟩
/-- The step along `x`, as a permutation of the chips. -/
def xE : Dev nD ≃ Dev nD := ⟨xN, xN, xN_xN, xN_xN⟩
/-- Each chip's `k`-th copy, and the chip it reaches. -/
def destE : Dev nD × Fin 10 ≃ Dev nD × Fin 10 :=
  ⟨fun x => (dest x.2 x.1, x.2), fun x => (dest x.2 x.1, x.2), fun x => Prod.ext (dest_dest x.2 x.1) rfl, fun x => Prod.ext (dest_dest x.2 x.1) rfl⟩

/-! ## The duties' tokens -/

/-- The duties of one chip's cells: two of its barrier, one of each departure and of each arrival. -/
def dutyAt : Bool ⊕ (Fin 10 ⊕ Fin 10) → SemLoc sig × Bool
  | .inl d => (.reg barS, d)
  | .inr (.inl k) => (.dma (sendS k), false)
  | .inr (.inr k) => (.dma (recvS k), false)
/-- Different duties have different names. -/
theorem dutyAt_inj : Function.Injective dutyAt := by decide

/-- The duties of all cells. -/
def toks : Finset (GSem nD τ sig × ℕ × Bool) :=
  Finset.univ.map ⟨fun x : Dev nD × (Bool ⊕ (Fin 10 ⊕ Fin 10)) => (((x.1 : Thread nD τ), (dutyAt x.2).1), 0, (dutyAt x.2).2), fun _ _ h =>
    Prod.ext (congrArg (fun t : GSem nD τ sig × ℕ × Bool => t.1.1.1) h)
      (dutyAt_inj (Prod.ext (congrArg (fun t : GSem nD τ sig × ℕ × Bool => t.1.2) h) (congrArg (fun t : GSem nD τ sig × ℕ × Bool => t.2.2) h)))⟩

/-- All the tokens, cell by cell. -/
theorem toks_eq : bigSep toks (fun x => (dutyTok ER x.1 x.2.1 x.2.2 : sProp 𝕄))
    = bigSep Finset.univ fun c : Dev nD => iprop((dutyTok ER (barCell c) 0 false ∗ dutyTok ER (barCell c) 0 true)
      ∗ (bigSep Finset.univ fun k : Fin 10 => dutyTok ER (sendCell c k) 0 false) ∗ bigSep Finset.univ fun k : Fin 10 => dutyTok ER (recvCell c k) 0 false) := by
  unfold toks; rw [bigSep_map, bigSep_univ_prod]
  refine bigSep_congr fun c _ => ?_
  rw [bigSep_univ_sum, bigSep_univ_sum, show (Finset.univ : Finset Bool) = {false, true} from by decide, bigSep_insert (by decide), bigSep_singleton]
  rfl

/-- Each token handed to the chip that pays its duty. -/
theorem toks_around :
    bigSep toks (fun x => (dutyTok ER x.1 x.2.1 x.2.2 : sProp 𝕄))
      ⊢ bigSep Finset.univ fun c : Dev nD => iprop(dutyTok ER (barCell (yN c)) 0 false ∗ dutyTok ER (barCell (xN c)) 0 true
        ∗ bigSep Finset.univ fun k : Fin 10 => payToks c k) := by
  have hr : (bigSep Finset.univ fun c : Dev nD => bigSep Finset.univ fun k : Fin 10 => (dutyTok ER (recvCell c k) 0 false : sProp 𝕄))
      = bigSep Finset.univ fun c : Dev nD => bigSep Finset.univ fun k : Fin 10 => dutyTok ER (recvCell (dest k c) k) 0 false := by
    rw [← bigSep_univ_prod (fun x : Dev nD × Fin 10 => (dutyTok ER (recvCell x.1 x.2) 0 false : sProp 𝕄)), bigSep_univ_equiv destE, bigSep_univ_prod]
    exact bigSep_congr fun c _ => bigSep_congr fun k _ => rfl
  have hy : (bigSep Finset.univ fun c : Dev nD => (dutyTok ER (barCell c) 0 false : sProp 𝕄))
      = bigSep Finset.univ fun c : Dev nD => dutyTok ER (barCell (yN c)) 0 false :=
    (bigSep_univ_equiv yE _).trans (bigSep_congr fun c _ => rfl)
  have hx : (bigSep Finset.univ fun c : Dev nD => (dutyTok ER (barCell c) 0 true : sProp 𝕄))
      = bigSep Finset.univ fun c : Dev nD => dutyTok ER (barCell (xN c)) 0 true :=
    (bigSep_univ_equiv xE _).trans (bigSep_congr fun c _ => rfl)
  have hp (c : Dev nD) : (bigSep Finset.univ fun k : Fin 10 => (payToks c k : sProp 𝕄))
      = iprop((bigSep Finset.univ fun k : Fin 10 => dutyTok ER (sendCell c k) 0 false)
        ∗ bigSep Finset.univ fun k : Fin 10 => dutyTok ER (recvCell (dest k c) k) 0 false) := by
    unfold payToks; rw [bigSep_sep']
  have hs : (bigSep Finset.univ fun c : Dev nD => bigSep Finset.univ fun k : Fin 10 => (payToks c k : sProp 𝕄))
      = iprop((bigSep Finset.univ fun c : Dev nD => bigSep Finset.univ fun k : Fin 10 => dutyTok ER (sendCell c k) 0 false)
        ∗ bigSep Finset.univ fun c : Dev nD => bigSep Finset.univ fun k : Fin 10 => dutyTok ER (recvCell (dest k c) k) 0 false) :=
    (bigSep_congr fun c _ => hp c).trans (bigSep_sep' _ _ _)
  rw [toks_eq, bigSep_sep', bigSep_sep', bigSep_sep', bigSep_sep', bigSep_sep', hs, hr, hy, hx]
  exact Idealize.SL.BI.sep_assoc

/-! ## The credit -/

/-- What one entry of a debt counts at a receive counter. -/
theorem tally_recv (c e : Dev nD) (k k' : Fin 10) (n : ℕ) :
    (tallyAt (recvCell e k') () n : CellTallies nD τ sig Unit) (recvCell c k) () = if c = e ∧ k = k' then n else 0 := by
  rw [tallyAt_apply]
  refine if_congr ⟨fun h => recv_inj h.1, fun h => ⟨by rw [h.1, h.2], rfl⟩⟩ rfl rfl
/-- What one entry of a debt counts at a barrier counter. -/
theorem tally_bar (c e : Dev nD) (n : ℕ) :
    (tallyAt (barCell e) () n : CellTallies nD τ sig Unit) (barCell c) () = if c = e then n else 0 := by
  rw [tallyAt_apply]
  refine if_congr ⟨fun h => congrArg (fun g : GSem nD τ sig => g.1.1) h.1, fun h => ⟨by rw [h], rfl⟩⟩ rfl rfl

/-- What the forwards owe at a receive counter. -/
theorem OF_recv (d c : Dev nD) (k : Fin 10) : ∀ l : List (Fin 8), l.Nodup →
    OF d l (recvCell c k) () = if c = xN d ∧ k ∈ l.map up then NC else 0
  | [], _ => by rw [if_neg (fun h => by simp at h)]; rfl
  | i :: l, h => by
    have hn := List.nodup_cons.mp h
    show (OF d l + tallyAt (recvCell (xN d) (up i)) () NC) (recvCell c k) () = _
    rw [Pi.add_apply, Finsupp.add_apply, OF_recv d c k l hn.2, tally_recv, List.map_cons]
    by_cases hc : c = xN d
    · by_cases hk : k = up i
      · subst hk
        have : up i ∉ l.map up := fun hm => by
          obtain ⟨j, hj, e⟩ := List.mem_map.mp hm
          have : j = i := by rw [← dn_up j, e, dn_up]
          exact hn.1 (this ▸ hj)
        rw [if_neg (fun h : c = xN d ∧ up i ∈ l.map up => this h.2), if_pos ⟨hc, rfl⟩, if_pos ⟨hc, List.mem_cons_self⟩, Nat.zero_add]
      · rw [if_neg (fun h : c = xN d ∧ k = up i => hk h.2), Nat.add_zero]
        refine if_congr ⟨fun h => ⟨h.1, List.mem_cons_of_mem _ h.2⟩, fun h => ⟨h.1, (List.mem_cons.mp h.2).resolve_left hk⟩⟩ rfl rfl
    · rw [if_neg (fun h => hc h.1), if_neg (fun h => hc h.1), if_neg (fun h => hc h.1)]

/-- The forwards are the copies from the third on. -/
theorem mem_up : ∀ k : Fin 10, k ∈ eight.map up ↔ ¬ k.val < 2 := by decide

/-- What chip `d` owes the arrivals of chip `c`'s `k`-th part. -/
theorem owed_recv (d c : Dev nD) (k : Fin 10) : O₀ d (recvCell c k) () = if d = dest k c then credOf k else 0 := by
  have hd : d = dest k c ↔ c = dest k d := ⟨fun h => by rw [h, dest_dest], fun h => by rw [h, dest_dest]⟩
  have hb (e : Dev nD) : (tallyAt (barCell e) () 1 : CellTallies nD τ sig Unit) (recvCell c k) () = 0 := by
    rw [tallyAt_ne_cell (recv_ne_bar c e k)]; rfl
  show (OF d eight + tallyAt (recvCell (xN d) 1) () NB + tallyAt (recvCell (yN d) 0) () NB
    + tallyAt (barCell (xN d)) () 1 + tallyAt (barCell (yN d)) () 1) (recvCell c k) () = _
  simp only [Pi.add_apply, Finsupp.add_apply, hb, OF_recv d c k eight (by decide), tally_recv, mem_up, Nat.add_zero, if_congr hd rfl rfl]
  unfold credOf dest
  by_cases h0 : k = 0
  · subst h0; simp
  by_cases h1 : k = 1
  · subst h1; simp
  have h2 : ¬ k.val < 2 := fun h => by
    have : k.val = 0 ∨ k.val = 1 := by omega
    rcases this with h | h
    · exact h0 (Fin.ext h)
    · exact h1 (Fin.ext h)
  simp [h0, h1, h2]

/-- What it owes chip `c`'s barrier. -/
theorem owed_bar (d c : Dev nD) : O₀ d (barCell c) () = (if d = xN c then 1 else 0) + if d = yN c then 1 else 0 := by
  have hx : c = xN d ↔ d = xN c := ⟨fun h => by rw [h, xN_xN], fun h => by rw [h, xN_xN]⟩
  have hy : c = yN d ↔ d = yN c := ⟨fun h => by rw [h, yN_yN], fun h => by rw [h, yN_yN]⟩
  have h0 : OR d (barCell c) () = 0 := by
    by_contra h
    obtain ⟨e, k, he⟩ := OR_pos d (Nat.pos_of_ne_zero h)
    exact recv_ne_bar e c k he.symm
  show (OR d + tallyAt (barCell (xN d)) () 1 + tallyAt (barCell (yN d)) () 1) (barCell c) () = _
  simp only [Pi.add_apply, Finsupp.add_apply, h0, tally_bar, if_congr hx rfl rfl, if_congr hy rfl rfl, Nat.zero_add]

/-- What all chips owe at a barrier counter, summed. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xN c) fun _ => 1, Finset.sum_ite_eq' Finset.univ (yN c) fun _ => 1, if_pos (Finset.mem_univ _), if_pos (Finset.mem_univ _)]

/-- What all chips owe at a receive counter, summed. -/
theorem launch_recv (c : Dev nD) (k : Fin 10) :
    tallyOn (recvCell c k) (launchCredit (Pipeline.owing O₀) 0 (recvCell c k)) = (tallyAt (recvCell c k) () (credOf k) : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (dest k c) fun _ => credOf k, if_pos (Finset.mem_univ _)]

/-- The ten receive counters. -/
def recvEmb : Fin 10 ↪ SemLoc sig := ⟨fun k => .dma (recvS k), by decide⟩

/-- The credit a chip starts with covers its barrier's and its arrivals' waits. -/
theorem creds (c : Dev nD) : (Pipeline.launchCred O₀ c : sProp 𝕄) ⊢ credits c := by
  unfold Pipeline.launchCred credits
  rw [bigSep_univ_at _ (SemLoc.reg barS), launch_bar]
  refine sep_mono_right ?_
  refine BIBase.Entails.trans (bigSep_subset (t := Finset.univ.map recvEmb) (fun g hg => ?_)) (Entails.of_eq ?_)
  · obtain ⟨k, -, rfl⟩ := Finset.mem_map.mp hg
    exact Finset.mem_erase.mpr ⟨fun h => (by cases h), Finset.mem_univ _⟩
  · rw [bigSep_map]
    exact bigSep_congr fun k _ => congrArg (fun t => (cred t : sProp 𝕄)) (launch_recv c k)

/-! ## The opening of the cells -/

variable (κ : GSem nD τ sig → ℕ)

/-- Ten counters at zero open ten cells. -/
theorem open_ten (gs : Fin 10 → GSem nD τ sig) (hi : ∀ k, invs B κ ⊢ cellInv ER (Rd B) (κ (gs k)) (gs k)) :
    iprop(invs B κ ∗ (bigSep Finset.univ fun k => openTok ER (gs k)) ∗ bigSep Finset.univ fun k => semVal (gs k) 0)
      ⊢ (|={Set.univ}=> iprop((bigSep Finset.univ fun k => atPos ER (gs k) 0 ∅ 0) ∗ bigSep Finset.univ fun k => reached ER (gs k) 0) : sProp 𝕄) := by
  iintro ⟨#HI, Ho, Hv⟩
  ihave Hc := (bigSep_with_persistent (S := Finset.univ) (R := invs B κ) (Φ := fun k : Fin 10 => (openTok ER (gs k) : sProp 𝕄))
    (Ψ := fun k => iprop(cellInv ER (Rd B) (κ (gs k)) (gs k) ∗ openTok ER (gs k))) fun k _ => BIClass.sep_mono (hi k) (BI.Entails.refl _)) $$ [Ho]
  · isplitr; · iexact HI
    iexact Ho
  imod (Rounds.cells_open ER (Rd B) Finset.univ gs (fun k => κ (gs k)) (Es := Set.univ) fun k _ => Set.mem_univ _) $$ [Hc Hv] with H
  · isplitl [Hc] <;> iassumption
  imodintro
  iapply split_family; iexact H

/-- What the copies within the chip count on, at zero. -/
def copySems (c : Dev nD) : sProp 𝕄 :=
  iprop(semVal ((c : Thread nD τ), .dma (inS 0)) 0 ∗ semVal ((c : Thread nD τ), .dma (inS 1)) 0 ∗ semVal ((c : Thread nD τ), .dma outS) 0)

/-- The region's own semaphores at zero, by the part each plays. -/
theorem ownSems_eq (c : Dev nD) : (Pipeline.ownSems0 osem c : sProp 𝕄)
    = iprop(copySems c ∗ (bigSep Finset.univ fun k : Fin 10 => semVal (sendCell c k) 0) ∗ bigSep Finset.univ fun k : Fin 10 => semVal (recvCell c k) 0) := by
  unfold Pipeline.ownSems0
  rw [bigSep_univ_sum, bigSep_univ_sum, three_eq]
  rfl

/-- What a chip is given at launch. -/
def Tk (c : Dev nD) : sProp 𝕄 := iprop((∃ κ, ghost B κ c) ∗ credits c)
/-- What a chip holds once its counters are in its cells. -/
def Xk (c : Dev nD) : sProp 𝕄 := iprop((∃ κ, opened B κ c) ∗ copySems c ∗ levAts L lv)

/-- A chip puts its copies' counters into its cells. -/
theorem hopen (c : Dev nD) : iprop(Tk B c ∗ Pipeline.ownSems0 osem c ∗ levAts L lv) ⊢ (|={Set.univ}=> Xk B c : sProp 𝕄) := by
  rw [ownSems_eq]
  unfold Tk Xk
  iintro ⟨⟨⟨%κ, Hg⟩, Hc⟩, ⟨Hcs, Hs, Hv⟩, #Hlev⟩
  unfold ghost credits
  icases Hg with ⟨#HI, Hatb, Hos, Hor, #Hry, #Hrx, Hty, Htx, Hpt⟩
  icases Hc with ⟨Hcb, Hcr⟩
  imod (open_ten B κ (fun k => sendCell c k) (inv_send B κ c)) $$ [Hos Hs] with ⟨Hat, Hre⟩
  · isplitr; · iexact HI
    isplitl [Hos] <;> iassumption
  imod (open_ten B κ (fun k => recvCell c k) (inv_recv B κ c)) $$ [Hor Hv] with ⟨Hatv, Hop⟩
  · isplitr; · iexact HI
    isplitl [Hor] <;> iassumption
  imodintro
  isplitr [Hcs]
  · iexists κ; unfold opened sendRdy recvRdy opens
    isplitr; · iexact HI
    isplitl [Hop]; · iexact Hop
    isplitr; · iexact Hry
    isplitr; · iexact Hrx
    isplitl [Hatb]; · iexact Hatb
    isplitl [Hcb]; · iexact Hcb
    isplitl [Hty]; · iexact Hty
    isplitl [Htx]; · iexact Htx
    isplitl [Hat Hre Hpt]
    · iapply join_family; isplitl [Hat]; · iexact Hat
      iapply join_family; isplitl [Hre] <;> iassumption
    iapply join_family; isplitl [Hatv] <;> iassumption
  isplitl [Hcs]; · iexact Hcs
  iexact Hlev

/-! ## What every chip starts with -/

/-- No barrier counter is a copy's counter. -/
theorem disjoint_cells : Disjoint (barCells : Finset (GSem nD τ sig)) scCells := by
  rw [Finset.disjoint_left]
  rintro g h₁ h₂
  obtain ⟨c, -, rfl⟩ := Finset.mem_map.mp h₁
  obtain ⟨⟨e, k⟩, -, h⟩ := Finset.mem_map.mp h₂
  rcases k with k | k <;> cases congrArg Prod.snd h

/-- What all the chips may consult: the invariants, and that every barrier is open. -/
def records : sProp 𝕄 := iprop(invs B κ ∗ bigSep barCells fun g => reached ER g 0)
/-- The records may be used any number of times. -/
instance records_persistent : BI.Persistent (records B κ) := by unfold records; infer_instance

/-- Every barrier cell is in its first round. -/
theorem reached_bar (c : Dev nD) : (bigSep barCells fun g => (reached ER g 0 : sProp 𝕄)) ⊢ reached ER (barCell c) 0 :=
  bigSep_elim (Finset.mem_map_of_mem barEmb (Finset.mem_univ c))

/-- What only chip `c` holds. -/
def linear (c : Dev nD) : sProp 𝕄 :=
  iprop(atPos ER (barCell c) 0 ∅ 0
    ∗ ((bigSep Finset.univ fun k : Fin 10 => openTok ER (sendCell c k)) ∗ bigSep Finset.univ fun k : Fin 10 => openTok ER (recvCell c k))
    ∗ dutyTok ER (barCell (yN c)) 0 false ∗ dutyTok ER (barCell (xN c)) 0 true ∗ bigSep Finset.univ fun k : Fin 10 => payToks c k)

/-- The records and a chip's own tokens are its share of the protocol. -/
theorem ghost_intro (c : Dev nD) : iprop(records B κ ∗ linear c) ⊢ ghost B κ c := by
  unfold records linear ghost
  iintro ⟨⟨#HI, #HR⟩, Hat, ⟨Hos, Hor⟩, Hty, Htx, Hpt⟩
  isplitr; · iexact HI
  isplitl [Hat]; · iexact Hat
  isplitl [Hos]; · iexact Hos
  isplitl [Hor]; · iexact Hor
  isplitr; · iapply (reached_bar (F := F) (yN c)); iexact HR
  isplitr; · iapply (reached_bar (F := F) (xN c)); iexact HR
  isplitl [Hty]; · iexact Hty
  isplitl [Htx] <;> iassumption

/-- The protocol's launch: from every barrier's counter at zero and the protocol's launch element, each chip's ghost state. -/
theorem fund :
    iprop((bigSep Finset.univ fun c : Dev nD => semVal (barCell c) 0) ∗ BI.own (ER (launchOf barCells scCells toks)))
      ⊢ (|={Set.univ}=> bigSep Finset.univ fun c : Dev nD => iprop(∃ κ, ghost B κ c) : sProp 𝕄) := by
  have hv : bigSep Finset.univ (fun c : Dev nD => (semVal (barCell c) 0 : sProp 𝕄)) = bigSep barCells (fun g => (semVal g 0 : sProp 𝕄)) :=
    (bigSep_map (s := Finset.univ) barEmb (Φ := fun g : GSem nD τ sig => (semVal g 0 : sProp 𝕄))).symm
  have hat : bigSep barCells (fun g => (atPos ER g 0 ∅ 0 : sProp 𝕄)) = bigSep Finset.univ (fun c : Dev nD => (atPos ER (barCell c) 0 ∅ 0 : sProp 𝕄)) :=
    bigSep_map (s := Finset.univ) barEmb (Φ := fun g : GSem nD τ sig => (atPos ER g 0 ∅ 0 : sProp 𝕄))
  have ho : bigSep scCells (fun g => (openTok ER g : sProp 𝕄))
      = bigSep Finset.univ (fun c : Dev nD => iprop((bigSep Finset.univ fun k : Fin 10 => openTok ER (sendCell c k))
          ∗ bigSep Finset.univ fun k : Fin 10 => openTok ER (recvCell c k))) := by
    rw [bigSep_map, bigSep_univ_prod]
    exact bigSep_congr fun c _ => bigSep_univ_sum _
  rw [hv]
  iintro H
  imod (Rounds.fund_launch ER (Rd B) disjoint_cells (fun g _ h => h) toks) $$ H with ⟨%κ, -, #HI, #HR, Hat, Ho, Ht⟩
  imodintro
  iapply (bigSep_with_persistent (R := records B κ) (Φ := fun c => linear c) fun c _ => by
    iintro H; iexists κ; iapply (ghost_intro B κ c); iexact H)
  isplitr
  · unfold records invs
    isplitr; · iexact HI
    iexact HR
  unfold linear
  iapply join_family; isplitl [Hat]; · iapply (Entails.of_eq hat); iexact Hat
  iapply join_family; isplitl [Ho]; · iapply (Entails.of_eq ho); iexact Ho
  iapply (toks_around (F := F)); iexact Ht

end Cert.KernelIdeal.Gen

end
-- ==== Proof.Launch.lean ====
/-
  The whole program's run: from any memory, every execution ends with the arguments as they were,
  every semaphore at zero, and on every chip the softmax of the logits put together from the chips'
  blocks.
-/
module

public import proofs.«01_k».proof.Proof.Ghost
public import proofs.«01_k».proof.Proof.Gen.KernelIdeal.Regions
public import proofs.«01_k».proof.Proof.Gen.KernelIdeal.Points
public import Idealize.ShloMosaic.Lib.Pipeline.Quiescent
public import Idealize.ShloMosaic.Lib.Pipeline.RegionTalk

@[expose] public section

set_option maxRecDepth 8192

noncomputable section

namespace Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The buffers -/

/-- Chip `c`'s block of the logits, as the host operations leave it. -/
def BK : Blocks F := fun c => V1 m c main_v11

/-- Chip `c`'s unscoped buffers at the end. -/
def VE (c : Dev nD) : Valuation τ sig (Elt F) :=
  Function.update (Function.update (V1 m c) main_v12_0 (OO (BK m))) main_v12_1 (CC (BK m) c)

/-- The buffers the kernel addresses. -/
def bufs : Finset (DevRef τ sig) := {Proc.devRef .tc main_v11, Proc.devRef .tc main_v12_0, Proc.devRef .tc main_v12_1}

/-- The call's buffers are among the host's. -/
theorem bufs_sub : bufs ⊆ Pipeline.ucRefs τ sig := by
  intro b hb
  unfold bufs at hb
  rcases Finset.mem_insert.mp hb with rfl | hb
  · exact Finset.mem_filter.mpr ⟨StableHlo.devRef_mem_tcRefs main_v11, by decide⟩
  rcases Finset.mem_insert.mp hb with rfl | hb
  · exact Finset.mem_filter.mpr ⟨StableHlo.devRef_mem_tcRefs main_v12_0, by decide⟩
  · rw [Finset.mem_singleton.mp hb]; exact Finset.mem_filter.mpr ⟨StableHlo.devRef_mem_tcRefs main_v12_1, by decide⟩

/-- Outside them the end is what the host operations left. -/
theorem VE_rest (c : Dev nD) (b : DevRef τ sig) (hb : b ∉ ({Proc.devRef .tc main_v12_0, Proc.devRef .tc main_v12_1} : Finset (DevRef τ sig))) :
    VE m c b = V1 m c b := by
  unfold VE
  rw [Function.update_of_ne (fun h => hb (by rw [h]; exact Finset.mem_insert_of_mem (Finset.mem_singleton_self _))),
    Function.update_of_ne (fun h => hb (by rw [h]; exact Finset.mem_insert_self _ _))]
/-- After the call the result holds the softmax rows. -/
theorem VE_out (c : Dev nD) : VE m c main_v12_0 = OO (BK m) := by
  unfold VE
  rw [Function.update_of_ne (StableHlo.devRef_ne_of_ne (by decide)), Function.update_self]
/-- After the call the communication buffer holds what landed. -/
theorem VE_comm (c : Dev nD) : VE m c main_v12_1 = CC (BK m) c := by
  unfold VE; rw [Function.update_self]
/-- The call leaves the block as it was. -/
theorem VE_blk (c : Dev nD) : VE m c main_v11 = BK m c := VE_rest m c _ (by decide)

/-- The call's buffers, one by one. -/
theorem bufs_eq (c : Dev nD) (W : Valuation τ sig (Elt F)) : (StableHlo.held (c : Thread nD τ) bufs W : sProp 𝕄)
    = iprop(blPts c fullShare (W main_v11) ∗ otPts c (W main_v12_0) ∗ cmPts c (W main_v12_1)) := by
  have hs : blkM.view.set = Finset.univ := View.set_whole _
  unfold StableHlo.held bufs
  rw [bigSep_insert (by decide), bigSep_insert (by decide), bigSep_singleton]
  unfold blPts; rw [hs]; rfl

/-! ## The region's proof data -/

/-- What the region leaves: the barrier at zero. -/
def Yk (c : Dev nD) : sProp 𝕄 := semVal (barCell c) 0

/-- The scratch buffers at any contents. -/
def scratch (c : Dev nD) : sProp 𝕄 := iprop((∃ f, viPts (F := F) c f) ∗ ∃ f, voPts (F := F) c f)

/-- Before the kernel's one point, -/
def Φ0 (c : Dev nD) : sProp 𝕄 :=
  iprop(Xk (BK m) c ∗ StableHlo.held (c : Thread nD τ) bufs (V1 m c) ∗ scratch c ∗ ∃ r, prngReg c r)
/-- and after it. -/
def Φ1 (c : Dev nD) : sProp 𝕄 :=
  iprop(Yk c ∗ StableHlo.held (c : Thread nD τ) bufs (VE m c) ∗ Pipeline.ownSems0 osem c ∗ scratch c ∗ ∃ r, prngReg c r)

/-- The call's record: what a chip holds and owes before and after. -/
def dat (c : Dev nD) : Pipeline.Dat τ (Elt F) Unit ℕ UU ℕ cfg0 c where
  A w := w.elim0
  after w := w.elim0
  Φ t := if t.val = 0 then Φ0 m c else Φ1 m c
  q w := w.elim0
  owed t := if t.val = 0 then O₀ c else 0

/-- The record, for the program's one call. -/
def pdats : (p : Fin 1) → (c : Dev nD) → Pipeline.Dat τ (Elt F) Unit ℕ UU ℕ (Pipeline.pin (pcfgs (F := F)) adm p) c
  | 0 => dat m

/-- What a chip owes on entry. -/
theorem owed_zero (c : Dev nD) : (pdats m 0 c).owed 0 = O₀ c := by
  show (if ((0 : Fin (cfg0.N + 1)).val = 0) then O₀ c else 0) = O₀ c; exact if_pos rfl
/-- A chip owes nothing on return. -/
theorem owed_last (c : Dev nD) : (pdats m 0 c).owed (Fin.last _) = 0 := by
  show (if (Fin.last cfg0.N).val = 0 then O₀ c else 0) = 0
  rw [Fin.val_last, if_neg (by rw [show cfg0.N = 1 from N_0]; decide)]

/-- A family over nothing is nothing. -/
theorem bigSep_none (Φ : Fin 0 → sProp 𝕄) : bigSep Finset.univ Φ = (BI.emp : sProp 𝕄) :=
  bigSep_univ_eq_bigSepL [] (by decide) (by decide) Φ

/-- The kernel at its one point. -/
theorem point (c : Dev nD) : Pipeline.BodyObligation (dat m c) defs₀ 𝒱₀ () Set.univ := fun t => by
  obtain rfl := fin_N0 t
  rw [bigSep_none, bigSep_none]
  rw [show (dat m c).Φ t0_0.castSucc = Φ0 m c from rfl, show (dat m c).Φ t0_0.succ = Φ1 m c from rfl]
  unfold Pipeline.Dat.owesAt Pipeline.owesWithin Pipeline.Dat.bound
  rw [show (dat m c).owed t0_0.castSucc = O₀ c from rfl, show (dat m c).owed t0_0.succ = 0 from rfl,
    show (dat m c).recorded t0_0.succ = Set.univ from rfl]
  refine BIBase.Entails.trans ?_ (Entails.of_eq (congrArg (fun p => wp frame (wpE defs₀ 𝒱₀ (c : Thread nD τ) none) Set.univ p _) (body_eq (F := F)).symm))
  unfold Φ0 Φ1 Xk
  rw [bufs_eq, bufs_eq, VE_out, VE_comm, VE_blk, ownSems_eq]
  unfold copySems scratch
  iintro ⟨⟨⟨⟨%κ, Ho⟩, ⟨Hs0, Hs1, Hs2⟩, Hlev⟩, ⟨Hbl, Hot, Hcm⟩, ⟨Hvi, Hvo⟩, Hp⟩, ⟨%W, -, HO⟩, -⟩
  iapply (body_run (BK m) κ c _)
  isplitr [Hp]
  · unfold bodyPre OW
    isplitl [Ho]; · iexact Ho
    isplitl [Hlev]; · iexact Hlev
    isplitl [Hbl]; · iexact Hbl
    isplitl [Hcm]; · iexists _; iexact Hcm
    isplitl [Hot]; · iexists _; iexact Hot
    isplitl [Hs0]; · iexact Hs0
    isplitl [Hs1]; · iexact Hs1
    isplitl [Hs2]; · iexact Hs2
    isplitl [Hvi]; · iexact Hvi
    isplitl [Hvo]; · iexact Hvo
    iexists W; iexact HO
  unfold bodyPost TS OW
  iintro ⟨Hb, Hs, Hr, Hbl, Hcm, Hot, Hs0, Hs1, Hs2, Hvi, Hvo, ⟨%W', HO⟩⟩
  isplitr [HO]
  · isplitl [Hb]; · unfold Yk; iexact Hb
    isplitl [Hbl Hot Hcm]
    · isplitl [Hbl]; · iexact Hbl
      isplitl [Hot] <;> iassumption
    isplitl [Hs0 Hs1 Hs2 Hs Hr]
    · isplitl [Hs0 Hs1 Hs2]
      · isplitl [Hs0]; · iexact Hs0
        isplitl [Hs1] <;> iassumption
      isplitl [Hs] <;> iassumption
    isplitr [Hp]
    · isplitl [Hvi] <;> iassumption
    iexact Hp
  isplitl [HO]
  · iexists W'; isplitr; · ipureintro; exact fun _ _ => Or.inl trivial
    iexact HO
  iempintro

/-! ## The region -/

/-- The call's scoped buffers and counters, one by one. -/
theorem scopedRest_eq (c : Dev nD) : (Pipeline.scopedRest (Ix := Unit) (Name := ℕ) (U := UU) (Lvl := ℕ) (Val := Elt F) (Pipeline.pin (pcfgs (F := F)) adm 0).spec c : sProp 𝕄)
    = scratch c := scopedRest0_eq c

/-- What the call needs on entry. -/
theorem hin (c : Dev nD) : iprop(Pipeline.scopedRest (Pipeline.pin (pcfgs (F := F)) adm 0).spec c ∗ (∃ r, prngReg c r)
      ∗ StableHlo.held (c.tc : Thread nD τ) bufs (V1 m c) ∗ Xk (BK m) c) ⊢ (pdats m 0 c).Φ 0 := by
  rw [show (pdats m 0 c).Φ 0 = Φ0 m c from rfl, scopedRest_eq]
  unfold Φ0
  iintro ⟨Hs, Hp, Hh, HX⟩
  isplitl [HX]; · iexact HX
  isplitl [Hh]; · iexact Hh
  isplitl [Hs] <;> iassumption

/-- What the call gives back on return. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) bufs (VE m c) ∗ Pipeline.ownSems0 osem c ∗ Yk c) := by
  rw [show (pdats m 0 c).Φ (Fin.last _) = Φ1 m c from rfl, scopedRest_eq]
  unfold Φ1
  iintro ⟨HY, Hh, Ho, Hs, Hp⟩
  isplitl [Hs]; · iexact Hs
  isplitl [Hp]; · iexact Hp
  isplitl [Hh]; · iexact Hh
  isplitl [Ho] <;> iassumption

/-- The side facts of the call's launch. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

/-- A chip owes only at counters that have a level, and that level is above zero. -/
theorem cut_owed (c : Dev nD) (t : Fin ((Pipeline.pin (pcfgs (F := F)) adm 0).N + 1)) (g : GSem nD τ sig) (i : Unit) (h : 0 < (pdats m 0 c).owed t g i) :
    i ∈ L g ∧ (0 : ℕ) < lv g i := by
  rw [show (pdats m 0 c).owed t = if t.val = 0 then O₀ c else 0 from rfl] at h
  split at h
  · rcases O₀_pos c h with ⟨e, k, rfl⟩ | ⟨e, rfl⟩
    · exact ⟨by rw [L_tc]; exact Finset.mem_singleton_self _, by rw [lv_recv]; split <;> decide⟩
    · exact ⟨by rw [L_tc]; exact Finset.mem_singleton_self _, Nat.one_pos⟩
  · exact absurd h (Nat.lt_irrefl 0)

set_option backward.isDefEq.respectTransparency.types false in
/-- The region: entered with what the host operations left, left with the result and the exchange buffer filled. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts cfg0.spec osem)
    bufs (Pipeline.ucRefs τ sig) bufs_sub kitP rfl (fun c => (point m c).loose)
    (fun _ => 0) O₀ (fun c => (owed_zero m c).trans (zero_add _).symm) (owed_last m) (fun _ => rfl) (fun _ w => w.elim0)
    (V1 m) (VE m) (fun c b hb => VE_rest m c b (fun h => (Finset.mem_sdiff.mp hb).2 (Finset.mem_insert_of_mem h)))
    (Tk (BK m)) Yk (Xk (BK m)) Yk (hopen (BK m)) (hin m) (hout m)
    (fun c => by iintro H; imodintro; iexact H)
    (fun _ => 0)
    ⟨fun _ w => w.elim0, fun _ w => w.elim0, fun c t g i h => cut_owed m c t g i h⟩
    (fun _ => iprop(emp))
    (fun _ w => w.elim0) (fun _ w => w.elim0)

/-- The call has no windowed array, so nothing is held for one. -/
theorem held_none (c : Dev nD) (W : Valuation τ sig (Elt F)) :
    (StableHlo.held (c.tc : Thread nD τ) (Pipeline.arrRefs (τ := τ) (pcfgs (F := F) 0).spec) W : sProp 𝕄) = BI.emp := by
  rw [show Pipeline.arrRefs (τ := τ) (pcfgs (F := F) 0).spec = ∅ from by
    unfold Pipeline.arrRefs; rw [Finset.map_eq_empty, Finset.image_eq_empty, Finset.univ_eq_empty]]
  unfold StableHlo.held
  exact BI.bigSep_empty

/-- What rides beside the buffers: before the region, and after it. -/
def E : Fin 2 → Dev nD → sProp 𝕄
  | 0, c => iprop(Tk (BK m) c ∗ (∃ r, prngReg c r) ∗ ∃ W, owes (c : Thread nD τ) (O₀ c) W)
  | 1, c => iprop(Yk c ∗ ∃ W, owes (c : Thread nD τ) (0 : CellTallies nD τ sig Unit) W)

/-- What the host holds is what the call needs. -/
theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (Pipeline.ucRefs τ sig) (V1 m c) ∗ emp) ∗ Tk (BK m) c ∗ ∃ Wd, owes (c : Thread nD τ) (0 + O₀ c) Wd)
  rw [held_none, zero_add]
  dsimp only [E]
  iintro ⟨Hh, HT, Hp, HO⟩
  isplitr; · iempintro
  isplitl [Hp]; · iexact Hp
  isplitl [Hh]
  · isplitl [Hh]; · iexact Hh
    iempintro
  isplitl [HT] <;> iassumption

/-- What the call leaves is what the host holds after. -/
theorem reg_post (c : Dev nD) : (reg m).post c ⊢ iprop(StableHlo.held (c : Thread nD τ) (Pipeline.ucRefs τ sig) (VE m c) ∗ E m 1 c) := by
  show iprop(StableHlo.held (c.tc : Thread nD τ) (Pipeline.arrRefs (τ := τ) (pcfgs (F := F) 0).spec) (VE m c) ∗ (∃ r, prngReg c r)
    ∗ (StableHlo.held (c.tc : Thread nD τ) (Pipeline.ucRefs τ sig) (VE m c) ∗ emp) ∗ Yk c ∗ ∃ Wd, owes (c : Thread nD τ) (0 : CellTallies nD τ sig Unit) Wd) ⊢ _
  rw [held_none]
  dsimp only [E]
  iintro ⟨-, -, ⟨Hh, -⟩, HY, HO⟩
  isplitl [Hh]; · iexact Hh
  isplitl [HY] <;> iassumption

/-! ## The launch -/

/-- The launch's element: the library's for the (absent) windows, the protocol's. -/
def u₀ : UU :=
  (initOf (Pipeline.cells (Pipeline.pin (pcfgs (F := F)) adm) cellOf_inj) (Pipeline.launchToks (Pipeline.pin (pcfgs (F := F)) adm) cellOf_inj),
    (launchOf barCells scCells toks, 1))

/-- The protocol's launch element, kept on chip 0 until every chip's part is dealt. -/
def G (c : Dev nD) : sProp 𝕄 := if c = 0 then BI.own (ER (launchOf barCells scCells toks)) else iprop(emp)
/-- The chips' launch shares together are the launch of all cells. -/
theorem G_all : bigSep Finset.univ (G (F := F)) = BI.own (ER (launchOf barCells scCells toks)) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The launch's resource, cut into the parts that the chips take. -/
theorem u₀_split : (ownU (u₀ (F := F)) : sProp 𝕄)
    ⊢ iprop(BI.own (EP (initOf (Pipeline.cells (Pipeline.pin (pcfgs (F := F)) adm) cellOf_inj) (Pipeline.launchToks (Pipeline.pin (pcfgs (F := F)) adm) cellOf_inj)))
      ∗ BI.own (ER (launchOf barCells scCells toks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (launchOf barCells scCells toks, (1 : Counters)))))

/-- The only counter that outlives the call is the barrier's. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
/-- A counter that no call declares is the barrier's. -/
theorem unscoped_bar : ∀ sm : SemLoc sig, sm.isScoped .tc = false → sm = .reg barS := by decide

/-- Every chip's first state. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ E m 0 c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop((semVal (barCell c) 0 ∗ G c) ∗ StableHlo.held (c : Thread nD τ) (Pipeline.ucRefs τ sig) (V0 m c) ∗ owes (c : Thread nD τ) (O₀ c) ∅
        ∗ credits c ∗ prngReg c (ρ c)) : sProp 𝕄) := by
    rw [← Pipeline.unscopedBufs_held c (V0 m c), unscopedSems_eq]
    iintro ⟨Hh, Hs, HO, Hc, Hp, HG⟩
    isplitl [Hs HG]; · isplitl [Hs] <;> iassumption
    isplitl [Hh]; · iexact Hh
    isplitl [HO]; · iexact HO
    isplitl [Hc]; · iapply (creds (F := F) c); iexact Hc
    iexact Hp
  have hlast (c : Dev nD) : iprop((∃ κ, ghost (BK m) κ c) ∗ StableHlo.held (c : Thread nD τ) (Pipeline.ucRefs τ sig) (V0 m c) ∗ owes (c : Thread nD τ) (O₀ c) ∅
        ∗ credits c ∗ prngReg c (ρ c))
      ⊢ (iprop(StableHlo.held (c : Thread nD τ) (Pipeline.ucRefs τ sig) (V0 m c) ∗ E m 0 c) : sProp 𝕄) := by
    dsimp only [E]; unfold Tk
    iintro ⟨Hg, Hh, HO, Hc, Hp⟩
    isplitl [Hh]; · iexact Hh
    isplitl [Hg Hc]; · isplitl [Hg] <;> iassumption
    isplitl [Hp]; · iexists _; iexact Hp
    iexists _; iexact HO
  refine BIBase.Entails.trans (BIClass.sep_mono (bigSep_mono fun c _ => hcore c) (BI.Entails.refl _)) ?_
  iintro ⟨H, -⟩
  ihave H2 := split_family $$ H; icases H2 with ⟨H3, Hr⟩
  ihave H4 := split_family $$ H3; icases H4 with ⟨Hv, HG⟩
  ihave Hu := (Entails.of_eq (G_all (F := F))) $$ HG
  imod (fund (BK m)) $$ [Hv Hu] with Hg
  · isplitl [Hv] <;> iassumption
  imodintro
  iapply (show (bigSep Finset.univ fun c : Dev nD => iprop((∃ κ, ghost (BK m) κ c) ∗ StableHlo.held (c : Thread nD τ) (Pipeline.ucRefs τ sig) (V0 m c)
      ∗ owes (c : Thread nD τ) (O₀ c) ∅ ∗ credits c ∗ prngReg c (ρ c))) ⊢ (bigSep Finset.univ fun c : Dev nD =>
        iprop(StableHlo.held (c : Thread nD τ) (Pipeline.ucRefs τ sig) (V0 m c) ∗ E m 0 c) : sProp 𝕄) from bigSep_mono fun c _ => hlast c)
  iapply join_family; isplitl [Hg] <;> iassumption

/-- Arguments keep their contents. -/
theorem VE_arg (c : Dev nD) (r : Ref sig .tc) (h1 : r ∉ hostOps0_W)
    (h2 : (Proc.devRef .tc r : DevRef τ sig) ∉ ({Proc.devRef .tc main_v12_0, Proc.devRef .tc main_v12_1} : Finset (DevRef τ sig))) :
    VE m c r = m ((c : Thread nD τ).loc r) := (VE_rest m c r h2).trans (V1_of m c r h1)

set_option backward.isDefEq.respectTransparency.types false in
/-- The run of the whole program: the arguments as they were, the result on every chip the softmax of the logits, every
    semaphore at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v12_0) = OO (BK m)) ∧ r.2.sem = fun _ => 0) := by
  have mem (r : Ref sig .tc) (h : ¬ (Proc.devRef .tc r : DevRef τ sig).isScoped) : (Proc.devRef .tc r : DevRef τ sig) ∈ Pipeline.ucRefs τ sig :=
    Finset.mem_filter.mpr ⟨StableHlo.devRef_mem_tcRefs r, h⟩
  refine Pipeline.θ_run_regions_kit_dev_sems (pcfgs (F := F)) adm (pdats m) () cellOf_inj EP defs₀ 𝒱₀ L lv m ρ main
    (segs m 𝒱₀ L lv (E m) () (pdats m) (reg m))
    (fun c Q => by
      rewrite [main_chain c, Pipeline.Seg.run_eq_chain,
        show (segs m 𝒱₀ L lv (E m) () (pdats m) (reg m) c).map Pipeline.Seg.prog = [
          StableHlo.seq (hostOps0 c), Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne G u₀
    (by
      rw [G_all]
      iintro H
      imodintro
      iapply (u₀_split (F := F)); iexact H)
    (T₀ := fun c => iprop(StableHlo.held (c : Thread nD τ) (Pipeline.ucRefs τ sig) (V0 m c) ∗ E m 0 c))
    (Tₙ := fun c => iprop(StableHlo.held (c : Thread nD τ) (Pipeline.ucRefs τ sig) (VE m c) ∗ Yk c))
    (hch := fun c => ⟨.rfl, reg_pre m c, BIBase.Entails.trans (reg_post m c) (by
      dsimp only [E]
      iintro ⟨Hh, HY, HO⟩
      isplitr [HO]; · isplitl [Hh] <;> iassumption
      iexact HO)⟩)
    (hinit := init m ρ)
    (QY := fun c s => (∀ b ∈ Pipeline.ucRefs τ sig, s.mem (c, b) = VE m c b) ∧ s.sem (barCell c) = 0)
    (hfin := fun c s' => ?_)
    (hQ := fun s h hs => ⟨fun c => ⟨((h c).1 _ (mem main_arg0 (by decide))).trans (VE_arg m c main_arg0 (by decide) (by decide)),
      ((h c).1 _ (mem main_arg1 (by decide))).trans (VE_arg m c main_arg1 (by decide) (by decide)),
      ((h c).1 _ (mem main_v12_0 (by decide))).trans (VE_out m c)⟩,
      sem_eq_zero hs fun c sm hsm => by obtain rfl := unscoped_bar sm hsm; exact (h c).2⟩)
  unfold StableHlo.held Yk
  iintro ⟨⟨Hh, Hb⟩, HSI⟩
  icombine HSI Hb gives %hb
  ihave Hr := (pointsTo_read_all (Pipeline.ucRefs τ sig) (fun b => ((c : Thread nD τ).1, b)) (VE m c) s') $$ [Hh HSI]
  · isplitl [Hh] <;> iassumption
  icases Hr with ⟨%h, HSI⟩
  imodintro
  isplitr
  · ipureintro; exact ⟨h, by simpa using hb⟩
  iexact HSI

end Cert.KernelIdeal.Gen

end
-- ==== Proof.Value.lean ====
/- What the values are over the extended reals: a tile's softmax and the reference's softmax, each read at an index as the
   softmax of a row, and the product the host computes on each chip as a block of the whole product. -/
module

public import proofs.«01_k».proof.Proof.Launch
public import proofs.«01_k».proof.Proof.Gen.ReferenceIdeal.Run
public import Idealize.ShloMosaic.Lib.Pointwise
public import Idealize.ShloMosaic.Lib.Layout
public import Idealize.ShloMosaic.Lib.DynamicIndex
public import Idealize.ShloMosaic.Lib.StableHlo.RunClose

@[expose] public section

set_option maxRecDepth 8192

noncomputable section

namespace Cert.KernelIdeal.Gen

open Idealize.ShloMosaic Idealize.ShloMosaic.TcCoe

/-- The maximum of a row of logits, from minus infinity. -/
def rowMax (f : Fin 32768 → EReal) : EReal :=
  (Finset.univ : Finset (Fin 32768)).fold max (Ideal.ofBits .f32 0xFF800000#32) f

/-- The softmax of a row of logits at column `q`. -/
def rowSoft (f : Fin 32768 → EReal) (q : Fin 32768) : EReal :=
  Ideal.div (Ideal.exp (f q - rowMax f)) (∑ k : Fin 32768, Ideal.exp (f k - rowMax f))

/-- A tile's softmax, read at a row and a column, is the softmax of that row. -/
theorem softTile_apply (v : Vec Ideal S64x32768 .bf16) (r : Fin 64) (q : Fin 32768) :
    softTile (F := Ideal) v (ix2 r q) = rowSoft (fun k => v (ix2 r k)) q := by
  unfold softTile k0_pay4
  pointwise
  rfl

/-- The whole product over the reals. -/
def dotW (X : Vec Ideal S1024x2048 .bf16) (W : Vec Ideal Cert.ReferenceIdeal.S2048x32768 .bf16) (r : Fin 1024) (q : Fin 32768) : EReal :=
  ∑ k : Fin 2048, (X (ix2 r k) : EReal) * (W (ix2 k q) : EReal)

/-- The rows of the activations that start where the host's index says. -/
theorem slice_row (X : Vec Ideal S1024x2048 .bf16) (st : Fin 2 → ℤ) (c : Dev nD) (h0 : st 0 = 512 * (c.val / 2 : ℕ)) (h1 : st 1 = 0)
    (r : Fin 512) (k : Fin 2048) :
    Host.dynamicSlice S512x2048 X st sliceFits_S1024x2048_S512x2048 (ix2 r k)
      = X (ix2 ⟨512 * (c.val / 2) + r.val, by have := c.isLt; have : c.val < 4 := this; omega⟩ k) := by
  have h4 : c.val < 4 := c.isLt
  have hoff : S1024x2048.Slices ![512 * (c.val / 2), 0] S512x2048 := ⟨rfl, fun a => by
    fin_cases a
    · show 512 * (c.val / 2) + 512 ≤ 1024; omega
    · show 0 + 2048 ≤ 2048; omega⟩
  rw [Host.dynamicSlice_eq_extractStridedSlice S512x2048 X st _ _ hoff (fun a => by
    fin_cases a
    · exact h0.trans (by push_cast; rfl)
    · exact h1)]
  refine congrArg X (funext fun a => ?_)
  fin_cases a
  · rfl
  · exact Fin.ext (Nat.zero_add _)

/-- The product the host computes on a chip, over the reals: the chip's rows of the activations by its columns of the weights. -/
theorem BK_apply (m : (ℓ : Loc nD τ sig) → Buf (Elt Ideal) ℓ) (c : Dev nD) (X : Vec Ideal S1024x2048 .bf16) (W : Vec Ideal S2048x16384 .bf16)
    (hX : m ((c.tc : Thread nD τ).loc main_arg0) = X) (hW : m ((c.tc : Thread nD τ).loc main_arg1) = W) (r : Fin 512) (q : Fin 16384) :
    BK m c (ix2 r q) = ∑ k : Fin 2048,
      (X (ix2 ⟨512 * (c.val / 2) + r.val, by have := c.isLt; have : c.val < 4 := this; omega⟩ k) : EReal) * (W (ix2 k q) : EReal) := by
  have h : BK m c = truncf (F := Ideal) .bf16 (Host.dotGeneral (F := Ideal) (φ₁ := .bf16) (φ₂ := .bf16) dot_S512x2048_S2048x16384_S512x16384_1_0_0_1_n_n none
        (Host.dynamicSlice S512x2048 X ![512 * (c.val / 2 : ℕ), 0] sliceFits_S1024x2048_S512x2048) W : Vec Ideal S512x16384 .f32) bitsLt_bf16_f32 := by
    subst hX hW
    unfold BK V1
    after_results_simp_entrywise
    refine congrArg (fun st => truncf (F := Ideal) .bf16 (Host.dotGeneral (F := Ideal) (φ₁ := .bf16) (φ₂ := .bf16) dot_S512x2048_S2048x16384_S512x16384_1_0_0_1_n_n none
        (Host.dynamicSlice S512x2048 (m ((c.tc : Thread nD τ).loc main_arg0) : Vec Ideal S1024x2048 .bf16) st sliceFits_S1024x2048_S512x2048)
        (m ((c.tc : Thread nD τ).loc main_arg1) : Vec Ideal S2048x16384 .bf16) : Vec Ideal S512x16384 .f32) bitsLt_bf16_f32) (funext fun k => ?_)
    fin_cases k
    · clear r q
      fin_cases c <;> rfl
    · rfl
  rw [h]
  pointwise
  refine Finset.sum_congr rfl fun k _ => ?_
  refine congrArg (· * (W (ix2 k q) : EReal)) ((congrArg X (funext fun a => ?_)).trans (slice_row X ![512 * (c.val / 2 : ℕ), 0] c rfl rfl r k))
  fin_cases a <;> rfl

/-- The reference's result, over the reals. -/
def refOut (X : Vec Ideal S1024x2048 .bf16) (W : Vec Ideal Cert.ReferenceIdeal.S2048x32768 .bf16) : Vec Ideal S1024x32768 .f32 :=
  fun j => rowSoft (dotW X W (j 0)) (j 1)

/-- Which block of columns a chip holds. -/
theorem mesh_col (c : Dev nD) : ((Layout.meshBlock [2, 2] (![[], [1]] : Fin 2 → List Nat) c) 1).val = c.val % 2 := by revert c; decide

/-- A column from its block and its place in the block. -/
theorem col_join (q : ℕ) (hq : q < 32768) (a : ℕ) : ((2 * a + q / 16384 % 2) % 2) * 16384 + q % 16384 = q := by omega

/-- What a tile writes into the result is the softmax of a row of the whole product. -/
theorem OO_eq (m : (ℓ : Loc nD τ sig) → Buf (Elt Ideal) ℓ) (X : Vec Ideal S1024x2048 .bf16) (W : Vec Ideal Cert.ReferenceIdeal.S2048x32768 .bf16)
    (h : ∀ c : Dev nD, m ((c.tc : Thread nD τ).loc main_arg0) = X
      ∧ m ((c.tc : Thread nD τ).loc main_arg1) = Layout.blockN ⟨2, ![2048, 16384]⟩ ⟨2, ![2048, 32768]⟩ (Layout.meshBlock [2, 2] ![[], [1]] c) W) :
    OO (BK m) = refOut X W := by
  have hL : ∀ (r : Fin 1024) (q : Fin 32768), LL (BK m) (ix2 r q) = dotW X W r q := by
    intro r q
    unfold LL
    rw [← ix2_eq_valueIdx, BK_apply m _ X _ (h _).1 (h _).2]
    unfold dotW
    refine Finset.sum_congr rfl fun k _ => ?_
    have hr := r.isLt
    have hq := q.isLt
    congr 1
    · refine congrArg X (funext fun a => ?_)
      fin_cases a
      · refine Fin.ext ?_
        show 512 * ((2 * (r.val / 512 % 2) + q.val / 16384 % 2) / 2) + r.val % 512 = r.val
        omega
      · rfl
    · rw [Layout.blockN_apply]
      refine congrArg W (funext fun a => Fin.ext ?_)
      rw [Layout.TilesN.idx_val]
      fin_cases a
      · show 0 * 2048 + k.val = k.val
        omega
      · dsimp only [Fin.cast_mk]
        refine (congrArg (fun t => t * 16384 + q.val % 16384) (mesh_col (devOf (r.val / 512) (q.val / 16384)))).trans ?_
        exact col_join q.val hq (r.val / 512 % 2)
  funext j
  have hj : (j 0).val < 1024 := (j 0).isLt
  have hT : ∀ (n : Fin 16) (r : Fin 64) (k : Fin 32768),
      VT (BK m) n (ix2 r k) = dotW X W ⟨64 * n.val + r.val, by omega⟩ k :=
    fun n r k => (congrArg (LL (BK m)) (ix2_eq_valueIdx _ _).symm).trans (hL _ _)
  refine (congrArg (softTile (VT (BK m) ⟨(j 0).val / 64, by omega⟩)) (ix2_eq_valueIdx ⟨(j 0).val % 64, by omega⟩ (j 1)).symm).trans
    ((softTile_apply _ _ _).trans ?_)
  refine congrArg (fun f => rowSoft f (j 1)) (funext fun k => (hT _ _ k).trans (congrArg (fun r => dotW X W r k) (Fin.ext ?_)))
  show 64 * ((j 0).val / 64) + (j 0).val % 64 = (j 0).val
  omega

end Cert.KernelIdeal.Gen

namespace Cert.ReferenceIdeal.Gen

open Idealize.ShloMosaic Idealize.ShloMosaic.TcCoe Cert.KernelIdeal.Gen

/-- The reference's result: each row the softmax of the whole product's row. -/
theorem ref_eq (X : FVec Ideal S1024x2048 .bf16) (W : FVec Ideal S2048x32768 .bf16) :
    Host.divf (Host.exp (subf (Host.dotGeneral dot_S1024x2048_S2048x32768_S1024x32768_1_0_0_1_n_n none (extf .f32 (X) bitsLt_bf16_f32) (extf .f32 (W) bitsLt_bf16_f32)) (broadcastInDim S1024x32768 ![0, 1] bcast_S1024x1_S1024x32768_0_1 (broadcastInDim S1024x1 ![0] bcast_S1024_S1024x1_0 (Host.reduce FloatOps.maximumf (Host.dotGeneral dot_S1024x2048_S2048x32768_S1024x32768_1_0_0_1_n_n none (extf .f32 (X) bitsLt_bf16_f32) (extf .f32 (W) bitsLt_bf16_f32)) (constant S_ .f32 0xFF800000#32) reducesTo_S1024x32768_S1024_d1 h_S_))))) (broadcastInDim S1024x32768 ![0, 1] bcast_S1024x1_S1024x32768_0_1 (broadcastInDim S1024x1 ![0] bcast_S1024_S1024x1_0 (Host.reduceAdd (Host.exp (subf (Host.dotGeneral dot_S1024x2048_S2048x32768_S1024x32768_1_0_0_1_n_n none (extf .f32 (X) bitsLt_bf16_f32) (extf .f32 (W) bitsLt_bf16_f32)) (broadcastInDim S1024x32768 ![0, 1] bcast_S1024x1_S1024x32768_0_1 (broadcastInDim S1024x1 ![0] bcast_S1024_S1024x1_0 (Host.reduce FloatOps.maximumf (Host.dotGeneral dot_S1024x2048_S2048x32768_S1024x32768_1_0_0_1_n_n none (extf .f32 (X) bitsLt_bf16_f32) (extf .f32 (W) bitsLt_bf16_f32)) (constant S_ .f32 0xFF800000#32) reducesTo_S1024x32768_S1024_d1 h_S_))))) (constant S_ .f32 0x00000000#32) reducesTo_S1024x32768_S1024_d1 h_S_))) = refOut X W := by
  funext j
  generalize hr : j 0 = r
  generalize hq : j 1 = q
  have hj : j = ix2 r q := by rw [← hr, ← hq]; exact eq_ix2 j
  rw [hj]
  pointwise
  rfl

end Cert.ReferenceIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- `Kernel` runs, its arguments end unchanged, and every counter ends at zero: its text is `KernelIdeal`'s, read over bit words. -/
theorem frame_kernel : @Cert.quiescent_Kernel Cert.Kernel.Gen.facts := fun m ρ _ =>
  (θ_run Cert.KernelIdeal.defs _ _).mono (fun _ h => ⟨fun c => ⟨(h.1 c).1, (h.1 c).2.1⟩, h.2⟩)
    (Cert.KernelIdeal.Gen.run_main (F := Bits) m ρ)

/-- `KernelIdeal` runs over the extended reals, its arguments end unchanged, and every counter ends at zero. -/
theorem frame_kernelIdeal : @Cert.quiescent_KernelIdeal Cert.KernelIdeal.Gen.facts := fun m ρ _ =>
  (θ_run Cert.KernelIdeal.defs _ _).mono (fun _ h => ⟨fun c => ⟨(h.1 c).1, (h.1 c).2.1⟩, h.2⟩)
    (Cert.KernelIdeal.Gen.run_main (F := Ideal) m ρ)

/-- `ReferenceIdeal` runs, its arguments end unchanged, and it declares no counter. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, every chip's result ends holding what the reference's does: each row the softmax of the row of the
    whole product. -/
theorem algebraic : @Cert.algebraic_KernelIdeal_ReferenceIdeal Cert.KernelIdeal.Gen.facts Cert.ReferenceIdeal.Gen.facts :=
  fun m g m' g' _ hin =>
  ⟨Cert.KernelIdeal.Gen.refOut _ _,
    (θ_run Cert.KernelIdeal.defs _ _).mono
      (fun _ h c => ⟨(h.1 c).2.2.trans (Cert.KernelIdeal.Gen.OO_eq m _ _ hin), (h.1 c).1, (h.1 c).2.1⟩)
      (Cert.KernelIdeal.Gen.run_main (F := Ideal) m g),
    (θ_run Cert.ReferenceIdeal.defs _ _).mono
      (fun _ h => ⟨(h 0).1.trans (Cert.ReferenceIdeal.Gen.ref_eq _ _), (h 0).2⟩)
      (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
